-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fields_in_range [hPre_fields_in_range : Cert.Pre_fields_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_fields_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_fields_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_fields_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_fields_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_fields_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_fields_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_fields_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_fields_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_fields_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_fields_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fields_in_range [hPre_fields_in_range : Cert.Pre_fields_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fields_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_fields_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_fields_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_fields_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_fields_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_fields_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_fields_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_fields_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_fields_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_fields_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_fields_in_range [hKernelIdeal : Cert.KernelIdeal.Facts] [hPre_fields_in_range : Cert.Pre_fields_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fields_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_fields_in_range [hReferenceIdeal : Cert.ReferenceIdeal.Facts] [hPre_fields_in_range : Cert.Pre_fields_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fields_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_fields_in_range [hKernelIdeal : Cert.KernelIdeal.Facts] [hReferenceIdeal : Cert.ReferenceIdeal.Facts] [hPre_fields_in_range : Cert.Pre_fields_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fields_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_fields_in_range : Cert.Pre_fields_in_range.Facts),
    quiescent_Kernel (hKernel := hKernel)
    ∧ quiescent_KernelIdeal (hKernelIdeal := hKernelIdeal)
    ∧ quiescent_KernelIdeal_pre_fields_in_range (hKernelIdeal := hKernelIdeal) (hPre_fields_in_range := hPre_fields_in_range)
    ∧ quiescent_ReferenceIdeal (hReferenceIdeal := hReferenceIdeal)
    ∧ quiescent_ReferenceIdeal_pre_fields_in_range (hReferenceIdeal := hReferenceIdeal) (hPre_fields_in_range := hPre_fields_in_range)
    ∧ preserves_Kernel_KernelIdeal
    ∧ algebraic_KernelIdeal_ReferenceIdeal_pre_fields_in_range (hKernelIdeal := hKernelIdeal) (hReferenceIdeal := hReferenceIdeal) (hPre_fields_in_range := hPre_fields_in_range)
-- ==== Pre_fields_in_range.lean ====
abbrev S16384x79 : Shape := ⟨2, ![16384, 79]⟩
abbrev S129x128 : Shape := ⟨2, ![129, 128]⟩
abbrev S128x63 : Shape := ⟨2, ![128, 63]⟩
abbrev S128 : Shape := ⟨1, ![128]⟩
abbrev S512x2176 : Shape := ⟨2, ![512, 2176]⟩
abbrev S512 : Shape := ⟨1, ![512]⟩
abbrev S256x512 : Shape := ⟨2, ![256, 512]⟩
abbrev S256 : Shape := ⟨1, ![256]⟩
abbrev S16 : Shape := ⟨1, ![16]⟩
abbrev S16384x16 : Shape := ⟨2, ![16384, 16]⟩
abbrev S_ : Shape := ⟨0, ![]⟩
abbrev S1x16 : Shape := ⟨2, ![1, 16]⟩
abbrev S16384x63 : Shape := ⟨2, ![16384, 63]⟩

class Facts : Prop where
  slices_S16384x79_S16384x16_0_0 : S16384x79.Slices ![0, 0] S16384x16
  bcast_S_S16384x16 : S_.BroadcastsInDim S16384x16 (![] : Fin 0 → Fin S16384x16.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  slices_S16384x79_S16384x63_0_16 : S16384x79.Slices ![0, 16] S16384x63
  bcast_S_S16384x63 : S_.BroadcastsInDim S16384x63 (![] : Fin 0 → Fin S16384x63.rank)
  bcast_S_S129x128 : S_.BroadcastsInDim S129x128 (![] : Fin 0 → Fin S129x128.rank)
  bcast_S_S128x63 : S_.BroadcastsInDim S128x63 (![] : Fin 0 → Fin S128x63.rank)
  bcast_S_S512x2176 : S_.BroadcastsInDim S512x2176 (![] : Fin 0 → Fin S512x2176.rank)
  bcast_S_S512 : S_.BroadcastsInDim S512 (![] : Fin 0 → Fin S512.rank)
  bcast_S_S256x512 : S_.BroadcastsInDim S256x512 (![] : Fin 0 → Fin S256x512.rank)
  bcast_S_S256 : S_.BroadcastsInDim S256 (![] : Fin 0 → Fin S256.rank)

variable [Facts]

noncomputable abbrev lit0 : Fin 16 → BitVec 32 := fun
  | 0 => 9#32 | 1 => 4#32 | 2 => 7#32 | 3 => 2#32 | 4 => 20#32 | 5 => 7#32 | 6 => 50#32 | 7 => 8#32
  | 8 => 8#32 | 9 => 2#32 | 10 => 2#32 | 11 => 2#32 | 12 => 2#32 | 13 => 2#32 | 14 => 2#32 | 15 => 2#32
  | _ => 0#32

def fn_part2 {F : FTy → Type} [FloatOps F] (main_v10 : IVec S16384x16 1) (main_v14 : IVec S16384x63 1) (main_v17 : IVec S129x128 1) (main_v20 : IVec S128x63 1) (main_v23 : IVec S512x2176 1) (main_v26 : IVec S512 1) (main_v28 : IVec S512 1) (main_v31 : IVec S256x512 1) (main_v34 : IVec S256 1) (main_v35 : FVec F S256 .f32) (main_v36 : FVec F S256 .f32) : IVec S16384x16 1 × IVec S16384x63 1 × IVec S129x128 1 × IVec S128x63 1 × IVec S512x2176 1 × IVec S512 1 × IVec S512 1 × IVec S256x512 1 × IVec S256 1 × IVec S256 1 :=
  let main_v37 : IVec S256 1 := cmpf .olt main_v35 main_v36
  (main_v10, main_v14, main_v17, main_v20, main_v23, main_v26, main_v28, main_v31, main_v34, main_v37)

def fn_part1 {F : FTy → Type} [FloatOps F] (main_arg4 : FVec F S512x2176 .f32) (main_arg6 : FVec F S512 .f32) (main_arg7 : FVec F S512 .f32) (main_arg8 : FVec F S256x512 .f32) (main_arg9 : FVec F S256 .f32) (main_arg10 : FVec F S256 .f32) (main_v10 : IVec S16384x16 1) (main_v14 : IVec S16384x63 1) (main_v17 : IVec S129x128 1) (main_v18 : FVec F S128x63 .f32) (main_cst_2 : FVec F S_ .f32) : IVec S16384x16 1 × IVec S16384x63 1 × IVec S129x128 1 × IVec S128x63 1 × IVec S512x2176 1 × IVec S512 1 × IVec S512 1 × IVec S256x512 1 × IVec S256 1 × IVec S256 1 :=
  let main_v19 : FVec F S128x63 .f32 := broadcastInDim S128x63 ![] bcast_S_S128x63 main_cst_2
  let main_v20 : IVec S128x63 1 := cmpf .olt main_v18 main_v19
  let main_v21 : FVec F S512x2176 .f32 := Host.absf main_arg4
  let main_cst_3 : FVec F S_ .f32 := constant S_ .f32 0x7F800000#32
  let main_v22 : FVec F S512x2176 .f32 := broadcastInDim S512x2176 ![] bcast_S_S512x2176 main_cst_3
  let main_v23 : IVec S512x2176 1 := cmpf .olt main_v21 main_v22
  let main_v24 : FVec F S512 .f32 := Host.absf main_arg6
  let main_cst_4 : FVec F S_ .f32 := constant S_ .f32 0x7F800000#32
  let main_v25 : FVec F S512 .f32 := broadcastInDim S512 ![] bcast_S_S512 main_cst_4
  let main_v26 : IVec S512 1 := cmpf .olt main_v24 main_v25
  let main_cst_5 : FVec F S_ .f32 := constant S_ .f32 0x7F800000#32
  let main_v27 : FVec F S512 .f32 := broadcastInDim S512 ![] bcast_S_S512 main_cst_5
  let main_v28 : IVec S512 1 := cmpf .olt main_arg7 main_v27
  let main_v29 : FVec F S256x512 .f32 := Host.absf main_arg8
  let main_cst_6 : FVec F S_ .f32 := constant S_ .f32 0x7F800000#32
  let main_v30 : FVec F S256x512 .f32 := broadcastInDim S256x512 ![] bcast_S_S256x512 main_cst_6
  let main_v31 : IVec S256x512 1 := cmpf .olt main_v29 main_v30
  let main_v32 : FVec F S256 .f32 := Host.absf main_arg9
  let main_cst_7 : FVec F S_ .f32 := constant S_ .f32 0x7F800000#32
  let main_v33 : FVec F S256 .f32 := broadcastInDim S256 ![] bcast_S_S256 main_cst_7
  let main_v34 : IVec S256 1 := cmpf .olt main_v32 main_v33
  let main_v35 : FVec F S256 .f32 := Host.absf main_arg10
  let main_cst_8 : FVec F S_ .f32 := constant S_ .f32 0x7F800000#32
  let main_v36 : FVec F S256 .f32 := broadcastInDim S256 ![] bcast_S_S256 main_cst_8
  fn_part2 (F := F) main_v10 main_v14 main_v17 main_v20 main_v23 main_v26 main_v28 main_v31 main_v34 main_v35 main_v36

def fn {F : FTy → Type} [FloatOps F] (main_arg0 : FVec F S16384x79 .f32) (main_arg1 : FVec F S129x128 .f32) (main_arg2 : FVec F S128x63 .f32) (main_arg3 : FVec F S128 .f32) (main_arg4 : FVec F S512x2176 .f32) (main_arg5 : FVec F S512 .f32) (main_arg6 : FVec F S512 .f32) (main_arg7 : FVec F S512 .f32) (main_arg8 : FVec F S256x512 .f32) (main_arg9 : FVec F S256 .f32) (main_arg10 : FVec F S256 .f32) (main_arg11 : FVec F S256 .f32) : IVec S16384x16 1 × IVec S16384x63 1 × IVec S129x128 1 × IVec S128x63 1 × IVec S512x2176 1 × IVec S512 1 × IVec S512 1 × IVec S256x512 1 × IVec S256 1 × IVec S256 1 :=
  let main_c : IVec S16 32 := fun i => lit0 (S16.rowMajor i)
  let main_v0 : FVec F S16384x16 .f32 := (extractStridedSlice S16384x16 ![0, 0] · slices_S16384x79_S16384x16_0_0) main_arg0
  let main_v1 : IVec S16384x16 32 := fptosi 32 main_v0
  let main_c_0 : IVec S_ 32 := constantI S_ 32 0#32
  let main_v2 : IVec S16384x16 32 := broadcastInDim S16384x16 ![] bcast_S_S16384x16 main_c_0
  let main_v3 : IVec S16384x16 1 := cmpi .sge main_v1 main_v2
  let main_v4 : IVec S1x16 32 := broadcastInDim S1x16 ![1] bcast_S16_S1x16_1 main_c
  let main_v5 : IVec S16384x16 32 := broadcastInDim S16384x16 ![0, 1] bcast_S1x16_S16384x16_0_1 main_v4
  let main_v6 : IVec S16384x16 1 := cmpi .slt main_v1 main_v5
  let main_v7 : IVec S16384x16 1 := andi main_v3 main_v6
  let main_v8 : FVec F S16384x16 .f32 := sitofp .f32 main_v1
  let main_v9 : IVec S16384x16 1 := cmpf .oeq main_v8 main_v0
  let main_v10 : IVec S16384x16 1 := andi main_v7 main_v9
  let main_v11 : FVec F S16384x63 .f32 := (extractStridedSlice S16384x63 ![0, 16] · slices_S16384x79_S16384x63_0_16) main_arg0
  let main_v12 : FVec F S16384x63 .f32 := Host.absf main_v11
  let main_cst : FVec F S_ .f32 := constant S_ .f32 0x7F800000#32
  let main_v13 : FVec F S16384x63 .f32 := broadcastInDim S16384x63 ![] bcast_S_S16384x63 main_cst
  let main_v14 : IVec S16384x63 1 := cmpf .olt main_v12 main_v13
  let main_v15 : FVec F S129x128 .f32 := Host.absf main_arg1
  let main_cst_1 : FVec F S_ .f32 := constant S_ .f32 0x7F800000#32
  let main_v16 : FVec F S129x128 .f32 := broadcastInDim S129x128 ![] bcast_S_S129x128 main_cst_1
  let main_v17 : IVec S129x128 1 := cmpf .olt main_v15 main_v16
  let main_v18 : FVec F S128x63 .f32 := Host.absf main_arg2
  let main_cst_2 : FVec F S_ .f32 := constant S_ .f32 0x7F800000#32
  fn_part1 (F := F) main_arg4 main_arg6 main_arg7 main_arg8 main_arg9 main_arg10 main_v10 main_v14 main_v17 main_v18 main_cst_2
-- ==== Kernel.lean ====
abbrev S16384x79 : Shape := ⟨2, ![16384, 79]⟩
abbrev S129x128 : Shape := ⟨2, ![129, 128]⟩
abbrev S128x63 : Shape := ⟨2, ![128, 63]⟩
abbrev S128 : Shape := ⟨1, ![128]⟩
abbrev S512x2176 : Shape := ⟨2, ![512, 2176]⟩
abbrev S512 : Shape := ⟨1, ![512]⟩
abbrev S256x512 : Shape := ⟨2, ![256, 512]⟩
abbrev S256 : Shape := ⟨1, ![256]⟩
abbrev S_ : Shape := ⟨0, ![]⟩
abbrev S136x128 : Shape := ⟨2, ![136, 128]⟩
abbrev S63x128 : Shape := ⟨2, ![63, 128]⟩
abbrev S64x128 : Shape := ⟨2, ![64, 128]⟩
abbrev S1x128 : Shape := ⟨2, ![1, 128]⟩
abbrev S1x512 : Shape := ⟨2, ![1, 512]⟩
abbrev S64x512 : Shape := ⟨2, ![64, 512]⟩
abbrev S8x512 : Shape := ⟨2, ![8, 512]⟩
abbrev S16x256 : Shape := ⟨2, ![16, 256]⟩
abbrev S8x256 : Shape := ⟨2, ![8, 256]⟩
abbrev S136x512 : Shape := ⟨2, ![136, 512]⟩
abbrev S512x128 : Shape := ⟨2, ![512, 128]⟩
abbrev S120x512 : Shape := ⟨2, ![120, 512]⟩
abbrev S1x256 : Shape := ⟨2, ![1, 256]⟩
abbrev S16384x256 : Shape := ⟨2, ![16384, 256]⟩
abbrev S16384x512 : Shape := ⟨2, ![16384, 512]⟩
abbrev S2048x79 : Shape := ⟨2, ![2048, 79]⟩
abbrev S2048x16 : Shape := ⟨2, ![2048, 16]⟩
abbrev S2048x256 : Shape := ⟨2, ![2048, 256]⟩
abbrev S2048x63 : Shape := ⟨2, ![2048, 63]⟩
abbrev S2048x1 : Shape := ⟨2, ![2048, 1]⟩
abbrev S2048x64 : Shape := ⟨2, ![2048, 64]⟩
abbrev S2048x512 : Shape := ⟨2, ![2048, 512]⟩

abbrev nBuf : Space → Nat
  | .hbm => 33
  | .vmem => 24
  | .smem => 0
  | _ => 0

abbrev bufTy : (tb : Table) → Fin (tcTables nBuf tb) → BufTy
  | .hbm, ⟨0, _⟩ => ⟨S16384x79, .f32⟩
  | .hbm, ⟨1, _⟩ => ⟨S129x128, .f32⟩
  | .hbm, ⟨2, _⟩ => ⟨S128x63, .f32⟩
  | .hbm, ⟨3, _⟩ => ⟨S128, .f32⟩
  | .hbm, ⟨4, _⟩ => ⟨S512x2176, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S256x512, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S_, .i32⟩
  | .hbm, ⟨13, _⟩ => ⟨S_, .f32⟩
  | .hbm, ⟨14, _⟩ => ⟨S136x128, .f32⟩
  | .hbm, ⟨15, _⟩ => ⟨S63x128, .f32⟩
  | .hbm, ⟨16, _⟩ => ⟨S_, .i32⟩
  | .hbm, ⟨17, _⟩ => ⟨S_, .f32⟩
  | .hbm, ⟨18, _⟩ => ⟨S64x128, .f32⟩
  | .hbm, ⟨19, _⟩ => ⟨S1x128, .f32⟩
  | .hbm, ⟨20, _⟩ => ⟨S1x512, .f32⟩
  | .hbm, ⟨21, _⟩ => ⟨S256x512, .f32⟩
  | .hbm, ⟨22, _⟩ => ⟨S64x512, .f32⟩
  | .hbm, ⟨23, _⟩ => ⟨S8x512, .f32⟩
  | .hbm, ⟨24, _⟩ => ⟨S16x256, .f32⟩
  | .hbm, ⟨25, _⟩ => ⟨S8x256, .f32⟩
  | .hbm, ⟨26, _⟩ => ⟨S16384x79, .bf16⟩
  | .hbm, ⟨27, _⟩ => ⟨S1x512, .f32⟩
  | .hbm, ⟨28, _⟩ => ⟨S1x512, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S16384x256, .f32⟩
  | .local _ .vmem, ⟨0, _⟩ => ⟨S136x128, .f32⟩
  | .local _ .vmem, ⟨1, _⟩ => ⟨S512x2176, .f32⟩
  | .local _ .vmem, ⟨2, _⟩ => ⟨S64x128, .f32⟩
  | .local _ .vmem, ⟨3, _⟩ => ⟨S1x128, .f32⟩
  | .local _ .vmem, ⟨4, _⟩ => ⟨S1x512, .f32⟩
  | .local _ .vmem, ⟨5, _⟩ => ⟨S256x512, .f32⟩
  | .local _ .vmem, ⟨6, _⟩ => ⟨S64x512, .f32⟩
  | .local _ .vmem, ⟨7, _⟩ => ⟨S8x512, .f32⟩
  | .local _ .vmem, ⟨8, _⟩ => ⟨S16x256, .f32⟩
  | .local _ .vmem, ⟨9, _⟩ => ⟨S8x256, .f32⟩
  | .local _ .vmem, ⟨10, _⟩ => ⟨S16384x79, .bf16⟩
  | .local _ .vmem, ⟨11, _⟩ => ⟨S256x512, .f32⟩
  | .local _ .vmem, ⟨12, _⟩ => ⟨S64x512, .f32⟩
  | .local _ .vmem, ⟨13, _⟩ => ⟨S8x512, .f32⟩
  | .local _ .vmem, ⟨14, _⟩ => ⟨S16x256, .f32⟩
  | .local _ .vmem, ⟨15, _⟩ => ⟨S8x256, .f32⟩
  | .local _ .vmem, ⟨16, _⟩ => ⟨S1x512, .f32⟩
  | .local _ .vmem, ⟨17, _⟩ => ⟨S1x512, .f32⟩
  | .local _ .vmem, ⟨18, _⟩ => ⟨S256x512, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S16384x512, .f32⟩
  | .local _ .vmem, ⟨23, _⟩ => ⟨S16384x256, .f32⟩
  | _, _ => ⟨S16384x79, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_call1_v0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev main_v5_4 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21

abbrev nD : Nat := 1
abbrev τ : Topo := Topo.v7x

variable {F : FTy → Type} [FloatOps F]

abbrev grid0 : Pipeline.Grid := .none

abbrev stage0_0 : Fin 1 → Memref sig .tc .vmem S136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k1_off1 (k1_t1 : Fin k1_t1_loop.trips) : Fin 2 → Nat :=
  let c0_i32 : BitVec 32 := 0#32
  let c1_i32 : BitVec 32 := 1#32
  let arg16 : BitVec 32 := Scf.iv c0_i32 c1_i32 k1_t1
  let c2048_i32_111 : BitVec 32 := 2048#32
  let v152 : BitVec 32 := Scalar.muli arg16 c2048_i32_111
  let v153 : Index := Scalar.indexCast v152
  let c0_112 : Index := 0#32
  ![v153.toNat, 0]
def k1_off2 (k1_t1 : Fin k1_t1_loop.trips) : Fin 2 → Nat :=
  let c0_i32 : BitVec 32 := 0#32
  let c1_i32 : BitVec 32 := 1#32
  let arg16 : BitVec 32 := Scf.iv c0_i32 c1_i32 k1_t1
  let c2048_i32_127 : BitVec 32 := 2048#32
  let v181 : BitVec 32 := Scalar.muli arg16 c2048_i32_127
  let v182 : Index := Scalar.indexCast v181
  let c0_128 : Index := 0#32
  ![v182.toNat, 0]
@[reducible] def k1_t2_loop : Scf.Loop 32 :=
  let c0_i32_10 : BitVec 32 := 0#32
  let c8_i32_11 : BitVec 32 := 8#32
  let v22 : BitVec 32 := Scalar.addi c0_i32_10 c8_i32_11
  let c1_i32_12 : BitVec 32 := 1#32
  ⟨c0_i32_10, v22, c1_i32_12⟩
def k1_off3 (k1_t2 : Fin k1_t2_loop.trips) : Fin 2 → Nat :=
  let c0_i32_10 : BitVec 32 := 0#32
  let c1_i32_12 : BitVec 32 := 1#32
  let arg16 : BitVec 32 := Scf.iv c0_i32_10 c1_i32_12 k1_t2
  let c2048_i32_111 : BitVec 32 := 2048#32
  let v152 : BitVec 32 := Scalar.muli arg16 c2048_i32_111
  let v153 : Index := Scalar.indexCast v152
  let c0_112 : Index := 0#32
  ![v153.toNat, 0]
def k1_off4 (k1_t2 : Fin k1_t2_loop.trips) : Fin 2 → Nat :=
  let c0_i32_10 : BitVec 32 := 0#32
  let c1_i32_12 : BitVec 32 := 1#32
  let arg16 : BitVec 32 := Scf.iv c0_i32_10 c1_i32_12 k1_t2
  let c2048_i32_119 : BitVec 32 := 2048#32
  let v167 : BitVec 32 := Scalar.muli arg16 c2048_i32_119
  let v168 : Index := Scalar.indexCast v167
  let c0_120 : Index := 0#32
  ![v168.toNat, 0]
abbrev stage1_0 : Fin 1 → Memref sig .tc .vmem S16384x79 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S256x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
-- ==== ReferenceIdeal.lean ====
abbrev S16384x79 : Shape := ⟨2, ![16384, 79]⟩
abbrev S129x128 : Shape := ⟨2, ![129, 128]⟩
abbrev S128x63 : Shape := ⟨2, ![128, 63]⟩
abbrev S128 : Shape := ⟨1, ![128]⟩
abbrev S512x2176 : Shape := ⟨2, ![512, 2176]⟩
abbrev S512 : Shape := ⟨1, ![512]⟩
abbrev S256x512 : Shape := ⟨2, ![256, 512]⟩
abbrev S256 : Shape := ⟨1, ![256]⟩
abbrev S16 : Shape := ⟨1, ![16]⟩
abbrev S16384x16 : Shape := ⟨2, ![16384, 16]⟩
abbrev S1x16 : Shape := ⟨2, ![1, 16]⟩
abbrev S_ : Shape := ⟨0, ![]⟩
abbrev S16384x16x1 : Shape := ⟨3, ![16384, 16, 1]⟩
abbrev S1 : Shape := ⟨1, ![1]⟩
abbrev S1x1x1 : Shape := ⟨3, ![1, 1, 1]⟩
abbrev S16384x16x128 : Shape := ⟨3, ![16384, 16, 128]⟩
abbrev S16384x63 : Shape := ⟨2, ![16384, 63]⟩
abbrev S63x128 : Shape := ⟨2, ![63, 128]⟩
abbrev S16384x128 : Shape := ⟨2, ![16384, 128]⟩
abbrev S1x128 : Shape := ⟨2, ![1, 128]⟩
abbrev S16384x1x128 : Shape := ⟨3, ![16384, 1, 128]⟩
abbrev S16384x17x128 : Shape := ⟨3, ![16384, 17, 128]⟩
abbrev S16384x2176 : Shape := ⟨2, ![16384, 2176]⟩
abbrev S2176x512 : Shape := ⟨2, ![2176, 512]⟩
abbrev S16384x512 : Shape := ⟨2, ![16384, 512]⟩
abbrev S1x512 : Shape := ⟨2, ![1, 512]⟩
abbrev S512x256 : Shape := ⟨2, ![512, 256]⟩
abbrev S16384x256 : Shape := ⟨2, ![16384, 256]⟩
abbrev S1x256 : Shape := ⟨2, ![1, 256]⟩

abbrev nBuf : Space → Nat
  | .hbm => 154
  | .vmem => 0
  | .smem => 0
  | _ => 0

abbrev hbmTy0_0 (i : Nat) : BufTy := match i % 128 with
  | 0 => ⟨S16384x79, .f32⟩
  | 1 => ⟨S129x128, .f32⟩
  | 2 => ⟨S128x63, .f32⟩
  | 3 => ⟨S128, .f32⟩
  | 4 => ⟨S512x2176, .f32⟩
  | 5 => ⟨S512, .f32⟩
  | 6 => ⟨S512, .f32⟩
  | 7 => ⟨S512, .f32⟩
  | 8 => ⟨S256x512, .f32⟩
  | 9 => ⟨S256, .f32⟩
  | 10 => ⟨S256, .f32⟩
  | 11 => ⟨S256, .f32⟩
  | 12 => ⟨S16, .i32⟩
  | 13 => ⟨S16384x16, .f32⟩
  | 14 => ⟨S16384x16, .i32⟩
  | 15 => ⟨S1x16, .i32⟩
  | 16 => ⟨S16384x16, .i32⟩
  | 17 => ⟨S16384x16, .i32⟩
  | 18 => ⟨S_, .i32⟩
  | 19 => ⟨S16384x16, .i32⟩
  | 20 => ⟨S16384x16, .i1⟩
  | 21 => ⟨S_, .i32⟩
  | 22 => ⟨S16384x16, .i32⟩
  | 23 => ⟨S16384x16, .i32⟩
  | 24 => ⟨S16384x16, .i32⟩
  | 25 => ⟨S16384x16x1, .i32⟩
  | 26 => ⟨S1, .i32⟩
  | 27 => ⟨S_, .i32⟩
  | 28 => ⟨S16384x16x1, .i32⟩
  | 29 => ⟨S16384x16x1, .i1⟩
  | 30 => ⟨S1x1x1, .i32⟩
  | 31 => ⟨S16384x16x1, .i32⟩
  | 32 => ⟨S16384x16x1, .i1⟩
  | 33 => ⟨S16384x16x1, .i1⟩
  | 34 => ⟨S_, .i1⟩
  | 35 => ⟨S16384x16, .i1⟩
  | 36 => ⟨S16384x16x128, .f32⟩
  | 37 => ⟨S16384x16x128, .i1⟩
  | 38 => ⟨S_, .f32⟩
  | 39 => ⟨S16384x16x128, .f32⟩
  | 40 => ⟨S16384x16x128, .f32⟩
  | 41 => ⟨S16384x63, .f32⟩
  | 42 => ⟨S63x128, .f32⟩
  | 43 => ⟨S16384x128, .f32⟩
  | 44 => ⟨S1x128, .f32⟩
  | 45 => ⟨S16384x128, .f32⟩
  | 46 => ⟨S16384x128, .f32⟩
  | 47 => ⟨S16384x1x128, .f32⟩
  | 48 => ⟨S16384x17x128, .f32⟩
  | 49 => ⟨S16384x2176, .f32⟩
  | 50 => ⟨S2176x512, .f32⟩
  | 51 => ⟨S16384x512, .f32⟩
  | 52 => ⟨S1x512, .f32⟩
  | 53 => ⟨S16384x512, .f32⟩
  | 54 => ⟨S16384x512, .f32⟩
  | 55 => ⟨S_, .f32⟩
  | 56 => ⟨S512, .f32⟩
  | 57 => ⟨S1x512, .f32⟩
  | 58 => ⟨S_, .f32⟩
  | 59 => ⟨S1x512, .f32⟩
  | 60 => ⟨S1x512, .f32⟩
  | 61 => ⟨S_, .i32⟩
  | 62 => ⟨S_, .f32⟩
  | 63 => ⟨S512, .f32⟩
  | 64 => ⟨S1x512, .f32⟩
  | 65 => ⟨S_, .f32⟩
  | 66 => ⟨S1x512, .f32⟩
  | 67 => ⟨S1x512, .f32⟩
  | 68 => ⟨S16384x512, .f32⟩
  | 69 => ⟨S16384x512, .f32⟩
  | 70 => ⟨S16384x512, .f32⟩
  | 71 => ⟨S_, .f32⟩
  | 72 => ⟨S_, .f32⟩
  | 73 => ⟨S_, .f32⟩
  | 74 => ⟨S_, .f32⟩
  | 75 => ⟨S512, .f32⟩
  | 76 => ⟨S1x512, .f32⟩
  | 77 => ⟨S1x512, .f32⟩
  | 78 => ⟨S1x512, .f32⟩
  | 79 => ⟨S_, .f32⟩
  | 80 => ⟨S_, .i1⟩
  | 81 => ⟨S_, .f32⟩
  | 82 => ⟨S_, .f32⟩
  | 83 => ⟨S1x512, .f32⟩
  | 84 => ⟨S1x512, .f32⟩
  | 85 => ⟨S16384x512, .f32⟩
  | 86 => ⟨S16384x512, .f32⟩
  | 87 => ⟨S1x512, .f32⟩
  | 88 => ⟨S16384x512, .f32⟩
  | 89 => ⟨S16384x512, .f32⟩
  | 90 => ⟨S_, .f32⟩
  | 91 => ⟨S1x512, .f32⟩
  | 92 => ⟨S1x512, .f32⟩
  | 93 => ⟨S1x512, .f32⟩
  | 94 => ⟨S16384x512, .f32⟩
  | 95 => ⟨S16384x512, .f32⟩
  | 96 => ⟨S1x512, .f32⟩
  | 97 => ⟨S16384x512, .f32⟩
  | 98 => ⟨S16384x512, .f32⟩
  | 99 => ⟨S_, .f32⟩
  | 100 => ⟨S16384x512, .f32⟩
  | 101 => ⟨S16384x512, .f32⟩
  | 102 => ⟨S512x256, .f32⟩
  | 103 => ⟨S16384x256, .f32⟩
  | 104 => ⟨S1x256, .f32⟩
  | 105 => ⟨S16384x256, .f32⟩
  | 106 => ⟨S16384x256, .f32⟩
  | 107 => ⟨S_, .f32⟩
  | 108 => ⟨S256, .f32⟩
  | 109 => ⟨S1x256, .f32⟩
  | 110 => ⟨S_, .f32⟩
  | 111 => ⟨S1x256, .f32⟩
  | 112 => ⟨S1x256, .f32⟩
  | 113 => ⟨S_, .i32⟩
  | 114 => ⟨S_, .f32⟩
  | 115 => ⟨S256, .f32⟩
  | 116 => ⟨S1x256, .f32⟩
  | 117 => ⟨S_, .f32⟩
  | 118 => ⟨S1x256, .f32⟩
  | 119 => ⟨S1x256, .f32⟩
  | 120 => ⟨S16384x256, .f32⟩
  | 121 => ⟨S16384x256, .f32⟩
  | 122 => ⟨S16384x256, .f32⟩
  | 123 => ⟨S_, .f32⟩
  | 124 => ⟨S_, .f32⟩
  | 125 => ⟨S_, .f32⟩
  | 126 => ⟨S_, .f32⟩
  | 127 => ⟨S256, .f32⟩
  | _ => ⟨S16384x79, .f32⟩

abbrev hbmTy0_1 (i : Nat) : BufTy := match i % 128 with
  | 0 => ⟨S1x256, .f32⟩
  | 1 => ⟨S1x256, .f32⟩
  | 2 => ⟨S1x256, .f32⟩
  | 3 => ⟨S_, .f32⟩
  | 4 => ⟨S_, .i1⟩
  | 5 => ⟨S_, .f32⟩
  | 6 => ⟨S_, .f32⟩
  | 7 => ⟨S1x256, .f32⟩
  | 8 => ⟨S1x256, .f32⟩
  | 9 => ⟨S16384x256, .f32⟩
  | 10 => ⟨S16384x256, .f32⟩
  | 11 => ⟨S1x256, .f32⟩
  | 12 => ⟨S16384x256, .f32⟩
  | 13 => ⟨S16384x256, .f32⟩
  | 14 => ⟨S_, .f32⟩
  | 15 => ⟨S1x256, .f32⟩
  | 16 => ⟨S1x256, .f32⟩
  | 17 => ⟨S1x256, .f32⟩
  | 18 => ⟨S16384x256, .f32⟩
  | 19 => ⟨S16384x256, .f32⟩
  | 20 => ⟨S1x256, .f32⟩
  | 21 => ⟨S16384x256, .f32⟩
  | 22 => ⟨S16384x256, .f32⟩
  | 23 => ⟨S_, .f32⟩
  | 24 => ⟨S16384x256, .f32⟩
  | 25 => ⟨S16384x256, .f32⟩
  | _ => ⟨S16384x79, .f32⟩

abbrev hbmTy (i : Nat) : BufTy := match i / 128 with
  | 0 => hbmTy0_0 i
  | 1 => hbmTy0_1 i
  | _ => ⟨S16384x79, .f32⟩

abbrev bufTy : (tb : Table) → Fin (tcTables nBuf tb) → BufTy
  | .hbm, ⟨i, _⟩ => hbmTy i
  | _, _ => ⟨S16384x79, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst : Ref sig .tc := ⟨.hbm, 55, rfl⟩
abbrev main_v20 : Ref sig .tc := ⟨.hbm, 56, rfl⟩
abbrev main_v21 : Ref sig .tc := ⟨.hbm, 57, rfl⟩
abbrev main_cst_0 : Ref sig .tc := ⟨.hbm, 58, rfl⟩
abbrev main_v22 : Ref sig .tc := ⟨.hbm, 59, rfl⟩
abbrev main_v23 : Ref sig .tc := ⟨.hbm, 60, rfl⟩
abbrev main_c_1 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_cst_2 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_cst_3 : Ref sig .tc := ⟨.hbm, 79, rfl⟩
abbrev main_call1_v13 : Ref sig .tc := ⟨.hbm, 80, rfl⟩
abbrev main_call1_cst_4 : Ref sig .tc := ⟨.hbm, 81, rfl⟩
abbrev main_call1_call0_v0 : Ref sig .tc := ⟨.hbm, 82, rfl⟩
abbrev main_call1_call0_v1 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_cst_2 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_call2_cst : Ref sig .tc := ⟨.hbm, 99, rfl⟩
abbrev main_call2_v0 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_cst_3 : Ref sig .tc := ⟨.hbm, 107, rfl⟩
abbrev main_v44 : Ref sig .tc := ⟨.hbm, 108, rfl⟩
abbrev main_v45 : Ref sig .tc := ⟨.hbm, 109, rfl⟩
abbrev main_cst_4 : Ref sig .tc := ⟨.hbm, 110, rfl⟩
abbrev main_v46 : Ref sig .tc := ⟨.hbm, 111, rfl⟩
abbrev main_v47 : Ref sig .tc := ⟨.hbm, 112, rfl⟩
abbrev main_c_5 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_cst_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_v7 : Ref sig .tc := ⟨.hbm, 123, rfl⟩
abbrev main_call3_cst_1 : Ref sig .tc := ⟨.hbm, 124, rfl⟩
abbrev main_call3_v8 : Ref sig .tc := ⟨.hbm, 125, rfl⟩
abbrev main_call3_cst_2 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_v12 : Ref sig .tc := ⟨.hbm, 130, rfl⟩
abbrev main_call3_cst_3 : Ref sig .tc := ⟨.hbm, 131, rfl⟩
abbrev main_call3_v13 : Ref sig .tc := ⟨.hbm, 132, rfl⟩
abbrev main_call3_cst_4 : Ref sig .tc := ⟨.hbm, 133, rfl⟩
abbrev main_call3_call0_v0 : Ref sig .tc := ⟨.hbm, 134, rfl⟩
abbrev main_call3_call0_v1 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_cst_6 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_call4_cst : Ref sig .tc := ⟨.hbm, 151, rfl⟩
abbrev main_call4_v0 : Ref sig .tc := ⟨.hbm, 152, rfl⟩
abbrev main_v62 : Ref sig .tc := ⟨.hbm, 153, rfl⟩

abbrev nD : Nat := 1
abbrev τ : Topo := Topo.v7x

variable {F : FTy → Type} [FloatOps F]
-- ==== Proof.KI.Loops.lean ====
/-
  The fused kernel's two counted loops, run once per symbolic trip: each loop's invariant is the state its trips
  before `k` have produced (the carried sums, and the pieces written into the scratch).
-/
module

public import proofs.«01_k».proof.Proof.Gen.KernelIdeal.Loops
public import Idealize.ShloMosaic.Lib.Tactic
public import Idealize.ShloMosaic.Lib.Pipeline.Kit

@[expose] public section

set_option maxRecDepth 8192

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the launch's rounds beside the counters the transfers take their tokens from. -/
abbrev UU : Type := UR sig nD τ × Counters

local notation "𝕄" => MT nD τ sig Unit (Elt F) ℕ UU ℕ

/-- Memref `M`'s buffer on core `c`: its contents type. -/
abbrev Bf (c : Dev nD) {sp : Space} {S : Shape} {e : EltTy} (M : Memref sig .tc sp S e) : Type := BufTy.Contents (Elt F) M.view.ty
/-- Memref `M` held on core `c` at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The fused kernel's operand 0. -/
abbrev a0 : Memref sig .tc .vmem S16384x79 .bf16 := Memref.whole cc1_stg0_0
/-- The fused kernel's operand 1. -/
abbrev a1 : Memref sig .tc .vmem S256x512 .f32 := Memref.whole cc1_stg1_0
/-- The fused kernel's operand 2. -/
abbrev a2 : Memref sig .tc .vmem S64x512 .f32 := Memref.whole cc1_stg2_0
/-- The fused kernel's operand 3. -/
abbrev a3 : Memref sig .tc .vmem S8x512 .f32 := Memref.whole cc1_stg3_0
/-- The fused kernel's operand 4. -/
abbrev a4 : Memref sig .tc .vmem S16x256 .f32 := Memref.whole cc1_stg4_0
/-- The fused kernel's operand 5. -/
abbrev a5 : Memref sig .tc .vmem S8x256 .f32 := Memref.whole cc1_stg5_0
/-- The fused kernel's operand 6. -/
abbrev a6 : Memref sig .tc .vmem S1x512 .f32 := Memref.whole cc1_stg6_0
/-- The fused kernel's operand 7. -/
abbrev a7 : Memref sig .tc .vmem S1x512 .f32 := Memref.whole cc1_stg7_0
/-- The fused kernel's operand 8. -/
abbrev a8 : Memref sig .tc .vmem S256x512 .f32 := Memref.whole cc1_stg8_0
/-- The fused kernel's operand 9. -/
abbrev a9 : Memref sig .tc .vmem S1x256 .f32 := Memref.whole cc1_stg9_0
/-- The fused kernel's operand 10. -/
abbrev a10 : Memref sig .tc .vmem S1x256 .f32 := Memref.whole cc1_stg10_0
/-- The fused kernel's operand 11. -/
abbrev a11 : Memref sig .tc .vmem S1x256 .f32 := Memref.whole cc1_stg11_0
/-- The fused kernel's operand 12. -/
abbrev a12 : Memref sig .tc .hbm S16384x256 .f32 := Memref.whole main_v12
/-- The fused kernel's operand 13. -/
abbrev a13 : Memref sig .tc .vmem S16384x512 .f32 := Memref.whole cc1_scratch0
/-- The fused kernel's operand 14. -/
abbrev a14 : Memref sig .tc .vmem S16384x256 .f32 := Memref.whole cc1_scratch1
variable (c : Dev nD)

/-! ## Loop 1 -/

/-- One trip of loop 1: what it yields and the pieces it writes, as the run finds them, with the run's proof. -/
@[irreducible] def trip1  (X0 : Bf (F := F) c a0) (X1 : Bf (F := F) c a1) (X2 : Bf (F := F) c a2) (X3 : Bf (F := F) c a3) (X4 : Bf (F := F) c a4) (X5 : Bf (F := F) c a5) (k : Fin k1_t1_loop.trips) :
    Σ' (R : (FVec F S1x512 .f32 × FVec F S1x512 .f32) → FVec F S1x512 .f32 × FVec F S1x512 .f32), { L : (FVec F S1x512 .f32 × FVec F S1x512 .f32) → List (View.Piece (Elt F) S16384x512 .f32) //
      ∀ (bd : Option Variants.none.V) (E : Set ℕ) (acc : FVec F S1x512 .f32 × FVec F S1x512 .f32) (f : Bf (F := F) c a13),
      iprop(pt c a0 X0 ∗ pt c a1 X1 ∗ pt c a2 X2 ∗ pt c a3 X3 ∗ pt c a4 X4 ∗ pt c a5 X5 ∗ pt c a13 f)
      ⊢ wp frame (wpE (defs₀ (F := F)) Variants.none (c : Thread nD τ) bd) E (k1_t1_body (F := F) a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) cc1_scratch2 k acc)
          (fun yld => iprop(⌜yld = R acc⌝ ∗ pt c a0 X0 ∗ pt c a1 X1 ∗ pt c a2 X2 ∗ pt c a3 X3 ∗ pt c a4 X4 ∗ pt c a5 X5 ∗ pt c a13 (a13.view.writes (Elt F) f (L acc)))) } := by
  have hk : k.val < 8 := Nat.lt_of_lt_of_le k.isLt k1_t1_abs.2.1
  refine ⟨?_, ?_, fun bd E acc f => ?run⟩
  case run =>
    unfold k1_t1_body
    iintro ⟨H0, H1, H2, H3, H4, H5, HW⟩
    sl_exec
    sl_step
    sl_close

/-- The state before trip `k` of loop 1: the carried sums, and the pieces written so far (last first). -/
def st1  (X0 : Bf (F := F) c a0) (X1 : Bf (F := F) c a1) (X2 : Bf (F := F) c a2) (X3 : Bf (F := F) c a3) (X4 : Bf (F := F) c a4) (X5 : Bf (F := F) c a5) (init : FVec F S1x512 .f32 × FVec F S1x512 .f32) : ℕ → (FVec F S1x512 .f32 × FVec F S1x512 .f32) × List (View.Piece (Elt F) S16384x512 .f32)
  | 0 => (init, [])
  | k + 1 =>
    if h : k < k1_t1_loop.trips then
      ((trip1 c X0 X1 X2 X3 X4 X5 ⟨k, h⟩).1 (st1 X0 X1 X2 X3 X4 X5 init k).1,
        (trip1 c X0 X1 X2 X3 X4 X5 ⟨k, h⟩).2.1 (st1 X0 X1 X2 X3 X4 X5 init k).1 ++ (st1 X0 X1 X2 X3 X4 X5 init k).2)
    else st1 X0 X1 X2 X3 X4 X5 init k

/-- One more trip of loop 1. -/
theorem st1_succ  (X0 : Bf (F := F) c a0) (X1 : Bf (F := F) c a1) (X2 : Bf (F := F) c a2) (X3 : Bf (F := F) c a3) (X4 : Bf (F := F) c a4) (X5 : Bf (F := F) c a5) (init : FVec F S1x512 .f32 × FVec F S1x512 .f32) (k : Fin k1_t1_loop.trips) :
    st1 c X0 X1 X2 X3 X4 X5 init (k.val + 1) =
      ((trip1 c X0 X1 X2 X3 X4 X5 k).1 (st1 c X0 X1 X2 X3 X4 X5 init k.val).1,
        (trip1 c X0 X1 X2 X3 X4 X5 k).2.1 (st1 c X0 X1 X2 X3 X4 X5 init k.val).1 ++ (st1 c X0 X1 X2 X3 X4 X5 init k.val).2) := by
  rw [st1.eq_2]; exact dif_pos k.isLt

set_option warn.classDefReducibility false in
/-- Loop 1 by its invariant: operands at their contents, the scratch at the pieces of the trips before, the carried
    value the state's. -/
@[sl_loop] def loopInv1 (bd : Option Variants.none.V) (E : Set ℕ)  (X0 : Bf (F := F) c a0) (X1 : Bf (F := F) c a1) (X2 : Bf (F := F) c a2) (X3 : Bf (F := F) c a3) (X4 : Bf (F := F) c a4) (X5 : Bf (F := F) c a5) (G : Bf (F := F) c a13) (init : FVec F S1x512 .f32 × FVec F S1x512 .f32) :
    LoopInvTy_k1_t1 (F := F) Unit ℕ UU ℕ Variants.none c bd E a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) cc1_scratch2 init where
  inv k acc := iprop(pt c a0 X0 ∗ pt c a1 X1 ∗ pt c a2 X2 ∗ pt c a3 X3 ∗ pt c a4 X4 ∗ pt c a5 X5 ∗ (∃ f, pt c a13 f ∗ ⌜f = a13.view.writes (Elt F) G (st1 c X0 X1 X2 X3 X4 X5 init k).2⌝)
    ∗ ⌜acc = (st1 c X0 X1 X2 X3 X4 X5 init k).1⌝)
  step k acc := by
    iintro ⟨H0, H1, H2, H3, H4, H5, ⟨%f, HW, %hf⟩, %h_acc⟩
    subst h_acc
    iapply (wp_wand_r Idealize.ShloMosaic.frame (wpE (defs₀ (F := F)) Variants.none (c : Thread nD τ) bd) E)
    isplitl [H0 H1 H2 H3 H4 H5 HW]
    · iapply ((trip1 (F := F) c X0 X1 X2 X3 X4 X5 k).2.2 bd E (st1 (F := F) c X0 X1 X2 X3 X4 X5 init k.val).1 f)
      isplitl [H0]; · iexact H0
      isplitl [H1]; · iexact H1
      isplitl [H2]; · iexact H2
      isplitl [H3]; · iexact H3
      isplitl [H4]; · iexact H4
      isplitl [H5]; · iexact H5
      iexact HW
    · iintro %yld ⟨%h_res, H0, H1, H2, H3, H4, H5, HW⟩
      isplitl [H0]; · iexact H0
      isplitl [H1]; · iexact H1
      isplitl [H2]; · iexact H2
      isplitl [H3]; · iexact H3
      isplitl [H4]; · iexact H4
      isplitl [H5]; · iexact H5
      simp only [st1_succ]
      isplitl [HW]
      · iexists _; isplitl [HW]; · iexact HW
        ipureintro; rw [hf, ← View.writes_append]
      ipureintro; rw [h_res]

/-! ## Loop 2 -/

/-- One trip of loop 2: what it yields and the pieces it writes, as the run finds them, with the run's proof. -/
@[irreducible] def trip2 (v3_0 v3_1 : FVec F S1x512 .f32) (v10 v16 : Vec F S1x512 .f32) (X8 : Bf (F := F) c a8) (X9 : Bf (F := F) c a9) (X13 : Bf (F := F) c a13) (k : Fin k1_t2_loop.trips) :
    Σ' (R : (FVec F S1x256 .f32 × FVec F S1x256 .f32) → FVec F S1x256 .f32 × FVec F S1x256 .f32), { L : (FVec F S1x256 .f32 × FVec F S1x256 .f32) → List (View.Piece (Elt F) S16384x256 .f32) //
      ∀ (bd : Option Variants.none.V) (E : Set ℕ) (acc : FVec F S1x256 .f32 × FVec F S1x256 .f32) (f : Bf (F := F) c a14),
      iprop(pt c a8 X8 ∗ pt c a9 X9 ∗ pt c a13 X13 ∗ pt c a14 f)
      ⊢ wp frame (wpE (defs₀ (F := F)) Variants.none (c : Thread nD τ) bd) E (k1_t2_body (F := F) a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) cc1_scratch2 v3_0 v3_1 v10 v16 k acc)
          (fun yld => iprop(⌜yld = R acc⌝ ∗ pt c a8 X8 ∗ pt c a9 X9 ∗ pt c a13 X13 ∗ pt c a14 (a14.view.writes (Elt F) f (L acc)))) } := by
  have hk : k.val < 8 := Nat.lt_of_lt_of_le k.isLt k1_t2_abs.2.1
  refine ⟨?_, ?_, fun bd E acc f => ?run⟩
  case run =>
    unfold k1_t2_body
    iintro ⟨H8, H9, H13, HW⟩
    sl_exec
    sl_step
    sl_close

/-- The state before trip `k` of loop 2: the carried sums, and the pieces written so far (last first). -/
def st2 (v3_0 v3_1 : FVec F S1x512 .f32) (v10 v16 : Vec F S1x512 .f32) (X8 : Bf (F := F) c a8) (X9 : Bf (F := F) c a9) (X13 : Bf (F := F) c a13) (init : FVec F S1x256 .f32 × FVec F S1x256 .f32) : ℕ → (FVec F S1x256 .f32 × FVec F S1x256 .f32) × List (View.Piece (Elt F) S16384x256 .f32)
  | 0 => (init, [])
  | k + 1 =>
    if h : k < k1_t2_loop.trips then
      ((trip2 c v3_0 v3_1 v10 v16 X8 X9 X13 ⟨k, h⟩).1 (st2 v3_0 v3_1 v10 v16 X8 X9 X13 init k).1,
        (trip2 c v3_0 v3_1 v10 v16 X8 X9 X13 ⟨k, h⟩).2.1 (st2 v3_0 v3_1 v10 v16 X8 X9 X13 init k).1 ++ (st2 v3_0 v3_1 v10 v16 X8 X9 X13 init k).2)
    else st2 v3_0 v3_1 v10 v16 X8 X9 X13 init k

/-- One more trip of loop 2. -/
theorem st2_succ (v3_0 v3_1 : FVec F S1x512 .f32) (v10 v16 : Vec F S1x512 .f32) (X8 : Bf (F := F) c a8) (X9 : Bf (F := F) c a9) (X13 : Bf (F := F) c a13) (init : FVec F S1x256 .f32 × FVec F S1x256 .f32) (k : Fin k1_t2_loop.trips) :
    st2 c v3_0 v3_1 v10 v16 X8 X9 X13 init (k.val + 1) =
      ((trip2 c v3_0 v3_1 v10 v16 X8 X9 X13 k).1 (st2 c v3_0 v3_1 v10 v16 X8 X9 X13 init k.val).1,
        (trip2 c v3_0 v3_1 v10 v16 X8 X9 X13 k).2.1 (st2 c v3_0 v3_1 v10 v16 X8 X9 X13 init k.val).1 ++ (st2 c v3_0 v3_1 v10 v16 X8 X9 X13 init k.val).2) := by
  rw [st2.eq_2]; exact dif_pos k.isLt

set_option warn.classDefReducibility false in
/-- Loop 2 by its invariant: operands at their contents, the scratch at the pieces of the trips before, the carried
    value the state's. -/
@[sl_loop] def loopInv2 (bd : Option Variants.none.V) (E : Set ℕ) (v3_0 v3_1 : FVec F S1x512 .f32) (v10 v16 : Vec F S1x512 .f32) (X8 : Bf (F := F) c a8) (X9 : Bf (F := F) c a9) (X13 : Bf (F := F) c a13) (G : Bf (F := F) c a14) (init : FVec F S1x256 .f32 × FVec F S1x256 .f32) :
    LoopInvTy_k1_t2 (F := F) Unit ℕ UU ℕ Variants.none c bd E a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) cc1_scratch2 v3_0 v3_1 v10 v16 init where
  inv k acc := iprop(pt c a8 X8 ∗ pt c a9 X9 ∗ pt c a13 X13 ∗ (∃ f, pt c a14 f ∗ ⌜f = a14.view.writes (Elt F) G (st2 c v3_0 v3_1 v10 v16 X8 X9 X13 init k).2⌝)
    ∗ ⌜acc = (st2 c v3_0 v3_1 v10 v16 X8 X9 X13 init k).1⌝)
  step k acc := by
    iintro ⟨H8, H9, H13, ⟨%f, HW, %hf⟩, %h_acc⟩
    subst h_acc
    iapply (wp_wand_r Idealize.ShloMosaic.frame (wpE (defs₀ (F := F)) Variants.none (c : Thread nD τ) bd) E)
    isplitl [H8 H9 H13 HW]
    · iapply ((trip2 (F := F) c v3_0 v3_1 v10 v16 X8 X9 X13 k).2.2 bd E (st2 (F := F) c v3_0 v3_1 v10 v16 X8 X9 X13 init k.val).1 f)
      isplitl [H8]; · iexact H8
      isplitl [H9]; · iexact H9
      isplitl [H13]; · iexact H13
      iexact HW
    · iintro %yld ⟨%h_res, H8, H9, H13, HW⟩
      isplitl [H8]; · iexact H8
      isplitl [H9]; · iexact H9
      isplitl [H13]; · iexact H13
      simp only [st2_succ]
      isplitl [HW]
      · iexists _; isplitl [HW]; · iexact HW
        ipureintro; rw [hf, ← View.writes_append]
      ipureintro; rw [h_res]

end Cert.Proof.KI

end
-- ==== Proof.KI.FusedRun.lean ====
/-
  The fused kernel's run: the two loops by their invariants, then the eight blocks scaled, stored and sent to the
  result on one DMA semaphore, and the eight waits.
-/
module

public import proofs.«01_k».proof.Proof.KI.Loops
public import Idealize.ShloMosaic.Lib.Tactic
public import Idealize.ShloMosaic.Lib.Pipeline.Kit

@[expose] public section

set_option maxRecDepth 8192

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Memref `M`'s buffer held whole on core `c` at contents `f`. -/
abbrev pw (c : Dev nD) {sp : Space} {S : Shape} {e : EltTy} (M : Memref sig .tc sp S e) (f : Bf (F := F) c M) : sProp 𝕄 :=
  M.view.loc (c : Thread nD τ) ↦{fullShare} f

/-- What the fused kernel leaves in its result buffer over its operands' contents, with the proof that it runs. -/
@[irreducible] def fusedRun (c : Dev nD) (X0 : Bf (F := F) c a0) (X1 : Bf (F := F) c a1) (X2 : Bf (F := F) c a2) (X3 : Bf (F := F) c a3) (X4 : Bf (F := F) c a4) (X5 : Bf (F := F) c a5) (X6 : Bf (F := F) c a6) (X7 : Bf (F := F) c a7) (X8 : Bf (F := F) c a8) (X9 : Bf (F := F) c a9) (X10 : Bf (F := F) c a10) (X11 : Bf (F := F) c a11) (f12 : Bf (F := F) c a12) (f13 : Bf (F := F) c a13) (f14 : Bf (F := F) c a14) :
    { Y : Bf (F := F) c a12 //
      ∀ (W : Waits sig Unit) (Q : PUnit → sProp 𝕄),
      iprop(pt c a0 X0 ∗ pt c a1 X1 ∗ pt c a2 X2 ∗ pt c a3 X3 ∗ pt c a4 X4 ∗ pt c a5 X5 ∗ pt c a6 X6 ∗ pt c a7 X7 ∗ pt c a8 X8 ∗ pt c a9 X9 ∗ pt c a10 X10 ∗ pt c a11 X11 ∗ pw c a12 f12 ∗ pt c a13 f13 ∗ pt c a14 f14
        ∗ semVal ((c : Thread nD τ), SemLoc.dma (sig := sig) 22) 0 ∗ owes (c : Thread nD τ) 0 W
        ∗ (iprop(pt c a0 X0 ∗ pt c a1 X1 ∗ pt c a2 X2 ∗ pt c a3 X3 ∗ pt c a4 X4 ∗ pt c a5 X5 ∗ pt c a6 X6 ∗ pt c a7 X7 ∗ pt c a8 X8 ∗ pt c a9 X9 ∗ pt c a10 X10 ∗ pt c a11 X11 ∗ pw c a12 Y ∗ (∃ f, pt c a13 f) ∗ (∃ f, pt c a14 f)
            ∗ semVal ((c : Thread nD τ), SemLoc.dma (sig := sig) 22) 0 ∗ ∃ W, owes (c : Thread nD τ) 0 W) -∗ Q ⟨⟩))
      ⊢ wp frame (wpE (defs₀ (F := F)) Variants.none (c : Thread nD τ) none) Set.univ (cc1__fused_kernel (F := F) a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) cc1_scratch2) Q } := by
  refine ⟨?_, fun W Q => ?run⟩
  case run =>
    iintro ⟨H0, H1, H2, H3, H4, H5, H6, H7, H8, H9, H10, H11, H12, H13, H14, Hd, HO, Hk⟩
    have _plan : Transfers.BatchOf (c : Thread nD τ) (SemLoc.dma (sig := sig) 22) 8 (windows := true) := trivial
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [Hd]; · iexact Hd
    iexists _; iexact HO

end Cert.Proof.KI

end
-- ==== Proof.KI.FusedValue.lean ====
/-
  What the fused kernel leaves in its result, spelt out: eight blocks of 2048 rows, each the second layer's block
  scaled, shifted and clipped at zero; the blocks depend on the operands only, not on what the scratches held.
-/
module

public import proofs.«01_k».proof.Proof.KI.FusedRun
public import Idealize.ShloMosaic.Lib.Writes
public import Idealize.ShloMosaic.Lib.Pointwise.Index
public import Idealize.ShloMosaic.Lib.ValueIdx

@[expose] public section

set_option maxRecDepth 8192

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD)

/-! ## Blocks of rows -/

/-- Eight blocks of 2048 rows, one under another. -/
def glue512 (P : ℕ → S2048x512.Idx → F .f32) : S16384x512.Idx → F .f32 := fun y =>
  P ((y 0).val / 2048) (ValueIdx.ix2 ⟨(y 0).val % 2048, Nat.mod_lt _ (by decide)⟩ ⟨(y 1).val, (y 1).isLt⟩)

/-- Block `k` of the eight, read back, is block `k`. -/
theorem glue512_emb (P : ℕ → S2048x512.Idx → F .f32) (k : ℕ) (off : Fin 2 → ℕ) (h0 : off 0 = 2048 * k) (h1 : off 1 = 0) (inb)
    (x : S2048x512.Idx) : glue512 P ((Rect.unit (s := S16384x512) off S2048x512.size inb).emb x) = P k x := by
  have hx : (x 0).val < 2048 := (x 0).isLt
  have e0 : (((Rect.unit (s := S16384x512) off S2048x512.size inb).emb x) 0).val = 2048 * k + (x 0).val := by
    show off 0 + 1 * (x 0).val = _
    rw [h0, Nat.one_mul]
  have e1 : (((Rect.unit (s := S16384x512) off S2048x512.size inb).emb x) 1).val = (x 1).val := by
    show off 1 + 1 * (x 1).val = _
    rw [h1, Nat.one_mul, Nat.zero_add]
  have q : (2048 * k + (x 0).val) / 2048 = k := by omega
  have r : (2048 * k + (x 0).val) % 2048 = (x 0).val := by omega
  unfold glue512
  simp only [e0, e1, q, r]
  congr 1
  funext a
  fin_cases a <;> rfl

/-- A block read back after writes of blocks, one of them this block: that block's payload. -/
theorem rd13_blocks (P : ℕ → S2048x512.Idx → F .f32) (k : ℕ) (off : Fin 2 → ℕ) (h0 : off 0 = 2048 * k) (h1 : off 1 = 0) (inb)
    (f : Bf (F := F) c a13) (L : List (View.Piece (Elt F) S16384x512 .f32))
    (hL : ∀ p ∈ L, ∃ (j : ℕ) (o : Fin 2 → ℕ) (i : _), o 0 = 2048 * j ∧ o 1 = 0 ∧ p = ⟨Rect.unit (s := S16384x512) o S2048x512.size i, P j⟩)
    (hk : ∃ (o : Fin 2 → ℕ) (i : _), o 0 = 2048 * k ∧ o 1 = 0 ∧ (⟨Rect.unit (s := S16384x512) o S2048x512.size i, P k⟩ : View.Piece (Elt F) S16384x512 .f32) ∈ L) :
    View.readAt (Elt F) a13.view (Rect.unit (s := S16384x512) off S2048x512.size inb).toLoadRect (a13.view.writes (Elt F) f L) = P k := by
  funext x
  rw [View.readAt_apply]
  refine (View.read_writes_apply_of_pieces a13.view f (glue512 P) L (fun p hp x => ?_) _ ?_).trans (glue512_emb P k off h0 h1 inb x)
  · obtain ⟨j, o, i, ho0, ho1, rfl⟩ := hL p hp
    exact (glue512_emb P j o ho0 ho1 i x).symm
  · obtain ⟨o, i, ho0, ho1, hm⟩ := hk
    refine ⟨_, hm, ?_⟩
    have : off = o := by
      funext a
      fin_cases a
      · exact h0.trans ho0.symm
      · exact h1.trans ho1.symm
    subst this
    exact (Rect.unit (s := S16384x512) off S2048x512.size inb).mem_set.mpr fun a => ⟨(x a).val, (x a).isLt, rfl⟩

/-- Eight blocks of 2048 rows, one under another. -/
def glue256 (P : ℕ → S2048x256.Idx → F .f32) : S16384x256.Idx → F .f32 := fun y =>
  P ((y 0).val / 2048) (ValueIdx.ix2 ⟨(y 0).val % 2048, Nat.mod_lt _ (by decide)⟩ ⟨(y 1).val, (y 1).isLt⟩)

/-- Block `k` of the eight, read back, is block `k`. -/
theorem glue256_emb (P : ℕ → S2048x256.Idx → F .f32) (k : ℕ) (off : Fin 2 → ℕ) (h0 : off 0 = 2048 * k) (h1 : off 1 = 0) (inb)
    (x : S2048x256.Idx) : glue256 P ((Rect.unit (s := S16384x256) off S2048x256.size inb).emb x) = P k x := by
  have hx : (x 0).val < 2048 := (x 0).isLt
  have e0 : (((Rect.unit (s := S16384x256) off S2048x256.size inb).emb x) 0).val = 2048 * k + (x 0).val := by
    show off 0 + 1 * (x 0).val = _
    rw [h0, Nat.one_mul]
  have e1 : (((Rect.unit (s := S16384x256) off S2048x256.size inb).emb x) 1).val = (x 1).val := by
    show off 1 + 1 * (x 1).val = _
    rw [h1, Nat.one_mul, Nat.zero_add]
  have q : (2048 * k + (x 0).val) / 2048 = k := by omega
  have r : (2048 * k + (x 0).val) % 2048 = (x 0).val := by omega
  unfold glue256
  simp only [e0, e1, q, r]
  congr 1
  funext a
  fin_cases a <;> rfl

/-- A block read back after writes of blocks, one of them this block: that block's payload. -/
theorem rd14_blocks (P : ℕ → S2048x256.Idx → F .f32) (k : ℕ) (off : Fin 2 → ℕ) (h0 : off 0 = 2048 * k) (h1 : off 1 = 0) (inb)
    (f : Bf (F := F) c a14) (L : List (View.Piece (Elt F) S16384x256 .f32))
    (hL : ∀ p ∈ L, ∃ (j : ℕ) (o : Fin 2 → ℕ) (i : _), o 0 = 2048 * j ∧ o 1 = 0 ∧ p = ⟨Rect.unit (s := S16384x256) o S2048x256.size i, P j⟩)
    (hk : ∃ (o : Fin 2 → ℕ) (i : _), o 0 = 2048 * k ∧ o 1 = 0 ∧ (⟨Rect.unit (s := S16384x256) o S2048x256.size i, P k⟩ : View.Piece (Elt F) S16384x256 .f32) ∈ L) :
    View.readAt (Elt F) a14.view (Rect.unit (s := S16384x256) off S2048x256.size inb).toLoadRect (a14.view.writes (Elt F) f L) = P k := by
  funext x
  rw [View.readAt_apply]
  refine (View.read_writes_apply_of_pieces a14.view f (glue256 P) L (fun p hp x => ?_) _ ?_).trans (glue256_emb P k off h0 h1 inb x)
  · obtain ⟨j, o, i, ho0, ho1, rfl⟩ := hL p hp
    exact (glue256_emb P j o ho0 ho1 i x).symm
  · obtain ⟨o, i, ho0, ho1, hm⟩ := hk
    refine ⟨_, hm, ?_⟩
    have : off = o := by
      funext a
      fin_cases a
      · exact h0.trans ho0.symm
      · exact h1.trans ho1.symm
    subst this
    exact (Rect.unit (s := S16384x256) off S2048x256.size inb).mem_set.mpr fun a => ⟨(x a).val, (x a).isLt, rfl⟩

/-- The offsets of loop 1's stores, -/
theorem off2_val : ∀ k : Fin k1_t1_loop.trips, k1_off2 k 0 = 2048 * k.val ∧ k1_off2 k 1 = 0 := by decide
/-- of loop 2's loads, -/
theorem off3_val : ∀ k : Fin k1_t2_loop.trips, k1_off3 k 0 = 2048 * k.val ∧ k1_off3 k 1 = 0 := by decide
/-- and of loop 2's stores. -/
theorem off4_val : ∀ k : Fin k1_t2_loop.trips, k1_off4 k 0 = 2048 * k.val ∧ k1_off4 k 1 = 0 := by decide
/-- The offsets of loop 1's loads. -/
theorem off1_val : ∀ k : Fin k1_t1_loop.trips, k1_off1 k 0 = 2048 * k.val ∧ k1_off1 k 1 = 0 := by decide

/-- Operand 1 as the kernel loads it. -/
abbrev rd1 (c : Dev nD) (X : Bf (F := F) c a1) : Vec F S256x512 .f32 := View.readAt (Elt F) a1.view (Rect.unit (s := S256x512) ![0, 0] S256x512.size (by decide)).toLoadRect X
/-- Operand 2 as the kernel loads it. -/
abbrev rd2 (c : Dev nD) (X : Bf (F := F) c a2) : Vec F S64x512 .f32 := View.readAt (Elt F) a2.view (Rect.unit (s := S64x512) ![0, 0] S64x512.size (by decide)).toLoadRect X
/-- Operand 3 as the kernel loads it. -/
abbrev rd3 (c : Dev nD) (X : Bf (F := F) c a3) : Vec F S1x512 .f32 := View.readAt (Elt F) a3.view (Rect.unit (s := S8x512) ![0, 0] S1x512.size (by decide)).toLoadRect X
/-- Operand 4 as the kernel loads it. -/
abbrev rd4 (c : Dev nD) (X : Bf (F := F) c a4) : Vec F S16x256 .f32 := View.readAt (Elt F) a4.view (Rect.unit (s := S16x256) ![0, 0] S16x256.size (by decide)).toLoadRect X
/-- Operand 5 as the kernel loads it. -/
abbrev rd5 (c : Dev nD) (X : Bf (F := F) c a5) : Vec F S1x256 .f32 := View.readAt (Elt F) a5.view (Rect.unit (s := S8x256) ![0, 0] S1x256.size (by decide)).toLoadRect X
/-- Operand 6 as the kernel loads it. -/
abbrev rd6 (c : Dev nD) (X : Bf (F := F) c a6) : Vec F S1x512 .f32 := View.readAt (Elt F) a6.view (Rect.unit (s := S1x512) ![0, 0] S1x512.size (by decide)).toLoadRect X
/-- Operand 7 as the kernel loads it. -/
abbrev rd7 (c : Dev nD) (X : Bf (F := F) c a7) : Vec F S1x512 .f32 := View.readAt (Elt F) a7.view (Rect.unit (s := S1x512) ![0, 0] S1x512.size (by decide)).toLoadRect X
/-- Operand 8 as the kernel loads it. -/
abbrev rd8 (c : Dev nD) (X : Bf (F := F) c a8) : Vec F S256x512 .f32 := View.readAt (Elt F) a8.view (Rect.unit (s := S256x512) ![0, 0] S256x512.size (by decide)).toLoadRect X
/-- Operand 9 as the kernel loads it. -/
abbrev rd9 (c : Dev nD) (X : Bf (F := F) c a9) : Vec F S1x256 .f32 := View.readAt (Elt F) a9.view (Rect.unit (s := S1x256) ![0, 0] S1x256.size (by decide)).toLoadRect X
/-- Operand 10 as the kernel loads it. -/
abbrev rd10 (c : Dev nD) (X : Bf (F := F) c a10) : Vec F S1x256 .f32 := View.readAt (Elt F) a10.view (Rect.unit (s := S1x256) ![0, 0] S1x256.size (by decide)).toLoadRect X
/-- Operand 11 as the kernel loads it. -/
abbrev rd11 (c : Dev nD) (X : Bf (F := F) c a11) : Vec F S1x256 .f32 := View.readAt (Elt F) a11.view (Rect.unit (s := S1x256) ![0, 0] S1x256.size (by decide)).toLoadRect X

section

variable (c : Dev nD) (X0 : Bf (F := F) c a0) (X1 : Bf (F := F) c a1) (X2 : Bf (F := F) c a2) (X3 : Bf (F := F) c a3) (X4 : Bf (F := F) c a4) (X5 : Bf (F := F) c a5) (X6 : Bf (F := F) c a6) (X7 : Bf (F := F) c a7) (X8 : Bf (F := F) c a8) (X9 : Bf (F := F) c a9) (X10 : Bf (F := F) c a10) (X11 : Bf (F := F) c a11)

/-- Block `k` of the input rows. -/
def xblk (k : ℕ) : Vec F S2048x79 .bf16 :=
  if h : k < k1_t1_loop.trips then View.readAt (Elt F) a0.view (Rect.unit (s := S16384x79) (k1_off1 ⟨k, h⟩) S2048x79.size (k1_off1_inb ⟨k, h⟩)).toLoadRect X0
  else fun _ => FloatOps.ofBits .bf16 0

/-- Block `k` of the first layer. -/
def h1b (k : ℕ) : FVec F S2048x512 .f32 := k1_pay2 (xblk c X0 k) (rd4 c X4) (rd5 c X5) (rd1 c X1) (rd2 c X2) (rd3 c X3)

/-- The first layer's column sums, and sums of squares, before block `k`. -/
def sum1 : ℕ → FVec F S1x512 .f32 × FVec F S1x512 .f32
  | 0 => (k1_pay5, k1_pay6)
  | k + 1 => (k1_pay3 (sum1 k).1 (xblk c X0 k) (rd4 c X4) (rd5 c X5) (rd1 c X1) (rd2 c X2) (rd3 c X3), k1_pay7 (sum1 k).2 (k1_pay4 (xblk c X0 k) (rd4 c X4) (rd5 c X5) (rd1 c X1) (rd2 c X2) (rd3 c X3)))

/-- Block `k` of the second layer. -/
def h2b (k : ℕ) : FVec F S2048x256 .f32 := k1_pay11 (sum1 c X0 X1 X2 X3 X4 X5 8).1 (sum1 c X0 X1 X2 X3 X4 X5 8).2 (rd6 c X6) (rd7 c X7) (h1b c X0 X1 X2 X3 X4 X5 k) (rd8 c X8) (rd9 c X9)

/-- The second layer's column sums, and sums of squares, before block `k`. -/
def sum2 : ℕ → FVec F S1x256 .f32 × FVec F S1x256 .f32
  | 0 => (k1_pay8, k1_pay9)
  | k + 1 => (k1_pay12 (sum1 c X0 X1 X2 X3 X4 X5 8).1 (sum1 c X0 X1 X2 X3 X4 X5 8).2 (rd6 c X6) (rd7 c X7) (sum2 k).1 (h1b c X0 X1 X2 X3 X4 X5 k) (rd8 c X8) (rd9 c X9),
      k1_pay13 (sum1 c X0 X1 X2 X3 X4 X5 8).1 (sum1 c X0 X1 X2 X3 X4 X5 8).2 (rd6 c X6) (rd7 c X7) (sum2 k).2 (h1b c X0 X1 X2 X3 X4 X5 k) (rd8 c X8) (rd9 c X9))

/-- Block `k` of the result. -/
def outb (k : ℕ) : FVec F S2048x256 .f32 :=
  k1_pay18 (k1_pay14 (sum2 c X0 X1 X2 X3 X4 X5 X6 X7 X8 X9 8).1) (k1_pay15 (sum2 c X0 X1 X2 X3 X4 X5 X6 X7 X8 X9 8).1 (sum2 c X0 X1 X2 X3 X4 X5 X6 X7 X8 X9 8).2 (rd10 c X10)) (rd11 c X11) (h2b c X0 X1 X2 X3 X4 X5 X6 X7 X8 X9 k)

/-- The result. -/
def fusedOut : Bf (F := F) c a12 := glue256 (outb c X0 X1 X2 X3 X4 X5 X6 X7 X8 X9 X10 X11)

/-- One trip of loop 1: the carried sums, -/
theorem trip1_fst (k : Fin k1_t1_loop.trips) (acc) : (trip1 c X0 X1 X2 X3 X4 X5 k).1 acc =
    (k1_pay3 acc.1 (xblk c X0 k.val) (rd4 c X4) (rd5 c X5) (rd1 c X1) (rd2 c X2) (rd3 c X3), k1_pay7 acc.2 (k1_pay4 (xblk c X0 k.val) (rd4 c X4) (rd5 c X5) (rd1 c X1) (rd2 c X2) (rd3 c X3))) := by
  unfold trip1 xblk; rw [dif_pos k.isLt]; rfl
/-- and the block it writes. -/
theorem trip1_snd (k : Fin k1_t1_loop.trips) (acc) : (trip1 c X0 X1 X2 X3 X4 X5 k).2.1 acc =
    [⟨Rect.unit (s := S16384x512) (k1_off2 k) S2048x512.size (k1_off2_inb k), h1b c X0 X1 X2 X3 X4 X5 k.val⟩] := by
  unfold trip1 h1b xblk; rw [dif_pos k.isLt]

/-- Loop 1's carried sums. -/
theorem st1_fst : ∀ n ≤ 8, (st1 c X0 X1 X2 X3 X4 X5 (k1_pay5, k1_pay6) n).1 = sum1 c X0 X1 X2 X3 X4 X5 n
  | 0, _ => rfl
  | n + 1, h => by
    have e := st1_succ c X0 X1 X2 X3 X4 X5 (k1_pay5, k1_pay6) ⟨n, h⟩
    rw [show (n + 1) = (⟨n, h⟩ : Fin k1_t1_loop.trips).val + 1 from rfl, e]
    dsimp only
    rw [trip1_fst, st1_fst n (by omega)]; try rfl

/-- Loop 1's pieces are the blocks before, -/
theorem st1_mem : ∀ n ≤ 8, ∀ p ∈ (st1 c X0 X1 X2 X3 X4 X5 (k1_pay5, k1_pay6) n).2,
    ∃ (j : ℕ) (o : Fin 2 → ℕ) (i : _), o 0 = 2048 * j ∧ o 1 = 0 ∧ p = ⟨Rect.unit (s := S16384x512) o S2048x512.size i, h1b c X0 X1 X2 X3 X4 X5 j⟩
  | 0, _, p, hp => absurd hp List.not_mem_nil
  | n + 1, h, p, hp => by
    have e := st1_succ c X0 X1 X2 X3 X4 X5 (k1_pay5, k1_pay6) ⟨n, h⟩
    rw [show (n + 1) = (⟨n, h⟩ : Fin k1_t1_loop.trips).val + 1 from rfl, e] at hp
    dsimp only at hp
    rw [trip1_snd] at hp
    rcases List.mem_append.mp hp with hp | hp
    · exact ⟨n, _, _, (off2_val ⟨n, h⟩).1, (off2_val ⟨n, h⟩).2, List.mem_singleton.mp hp⟩
    · exact st1_mem n (by omega) p hp

/-- and every block before is among them. -/
theorem mem_st1 : ∀ n ≤ 8, ∀ k < n, ∃ (o : Fin 2 → ℕ) (i : _), o 0 = 2048 * k ∧ o 1 = 0 ∧
    (⟨Rect.unit (s := S16384x512) o S2048x512.size i, h1b c X0 X1 X2 X3 X4 X5 k⟩ : View.Piece (Elt F) S16384x512 .f32) ∈ (st1 c X0 X1 X2 X3 X4 X5 (k1_pay5, k1_pay6) n).2
  | 0, _, k, hk => absurd hk (Nat.not_lt_zero _)
  | n + 1, h, k, hk => by
    have e := st1_succ c X0 X1 X2 X3 X4 X5 (k1_pay5, k1_pay6) ⟨n, h⟩
    rw [show (n + 1) = (⟨n, h⟩ : Fin k1_t1_loop.trips).val + 1 from rfl, e]
    dsimp only
    rw [trip1_snd]
    rcases Nat.lt_succ_iff_lt_or_eq.mp hk with hk | rfl
    · obtain ⟨o, i, h0, h1, hm⟩ := mem_st1 n (by omega) k hk
      exact ⟨o, i, h0, h1, List.mem_append_right _ hm⟩
    · exact ⟨_, _, (off2_val ⟨k, h⟩).1, (off2_val ⟨k, h⟩).2, List.mem_append_left _ (List.mem_singleton.mpr rfl)⟩

/-- So the first layer's scratch after loop 1 reads back block `k` of the first layer. -/
theorem rd_h1 (f13 : Bf (F := F) c a13) (k : Fin k1_t2_loop.trips) :
    View.readAt (Elt F) a13.view (Rect.unit (s := S16384x512) (k1_off3 k) S2048x512.size (k1_off3_inb k)).toLoadRect
      (a13.view.writes (Elt F) f13 (st1 c X0 X1 X2 X3 X4 X5 (k1_pay5, k1_pay6) 8).2) = h1b c X0 X1 X2 X3 X4 X5 k.val :=
  rd13_blocks c (h1b c X0 X1 X2 X3 X4 X5) k.val _ (off3_val k).1 (off3_val k).2 _ f13 _ (st1_mem c X0 X1 X2 X3 X4 X5 8 le_rfl) (mem_st1 c X0 X1 X2 X3 X4 X5 8 le_rfl k.val k.isLt)

/-- The pieces the second scratch holds after loop 2. -/
def H14_0 (f13 : Bf (F := F) c a13) :=
  (st2 c (st1 c X0 X1 X2 X3 X4 X5 (k1_pay5, k1_pay6) (Scf.trips k1_t1_loop.lb k1_t1_loop.ub k1_t1_loop.st)).1.1 (st1 c X0 X1 X2 X3 X4 X5 (k1_pay5, k1_pay6) (Scf.trips k1_t1_loop.lb k1_t1_loop.ub k1_t1_loop.st)).1.2 (rd6 c X6) (rd7 c X7) X8 X9
    (a13.view.writes (Elt F) f13 (st1 c X0 X1 X2 X3 X4 X5 (k1_pay5, k1_pay6) (Scf.trips k1_t1_loop.lb k1_t1_loop.ub k1_t1_loop.st)).2) (k1_pay8, k1_pay9) (Scf.trips k1_t2_loop.lb k1_t2_loop.ub k1_t2_loop.st)).2

/-- Loop 2's state before trip `n`, entered from loop 1's. -/
def s2 (f13 : Bf (F := F) c a13) (n : ℕ) :=
  st2 c (st1 c X0 X1 X2 X3 X4 X5 (k1_pay5, k1_pay6) 8).1.1 (st1 c X0 X1 X2 X3 X4 X5 (k1_pay5, k1_pay6) 8).1.2 (rd6 c X6) (rd7 c X7) X8 X9
    (a13.view.writes (Elt F) f13 (st1 c X0 X1 X2 X3 X4 X5 (k1_pay5, k1_pay6) 8).2) (k1_pay8, k1_pay9) n

/-- One trip of loop 2. -/
theorem s2_succ (f13 : Bf (F := F) c a13) (n : ℕ) (h : n < k1_t2_loop.trips) : s2 c X0 X1 X2 X3 X4 X5 X6 X7 X8 X9 f13 (n + 1) =
    ((k1_pay12 (sum1 c X0 X1 X2 X3 X4 X5 8).1 (sum1 c X0 X1 X2 X3 X4 X5 8).2 (rd6 c X6) (rd7 c X7) (s2 c X0 X1 X2 X3 X4 X5 X6 X7 X8 X9 f13 n).1.1 (h1b c X0 X1 X2 X3 X4 X5 n) (rd8 c X8) (rd9 c X9),
      k1_pay13 (sum1 c X0 X1 X2 X3 X4 X5 8).1 (sum1 c X0 X1 X2 X3 X4 X5 8).2 (rd6 c X6) (rd7 c X7) (s2 c X0 X1 X2 X3 X4 X5 X6 X7 X8 X9 f13 n).1.2 (h1b c X0 X1 X2 X3 X4 X5 n) (rd8 c X8) (rd9 c X9)),
      ⟨Rect.unit (s := S16384x256) (k1_off4 ⟨n, h⟩) S2048x256.size (k1_off4_inb ⟨n, h⟩), h2b c X0 X1 X2 X3 X4 X5 X6 X7 X8 X9 n⟩ :: (s2 c X0 X1 X2 X3 X4 X5 X6 X7 X8 X9 f13 n).2) := by
  have e := rd_h1 c X0 X1 X2 X3 X4 X5 f13 ⟨n, h⟩
  unfold s2
  rw [show (n + 1) = (⟨n, h⟩ : Fin k1_t2_loop.trips).val + 1 from rfl, st2_succ]
  unfold trip2 h2b
  dsimp only
  rw [e, st1_fst c X0 X1 X2 X3 X4 X5 8 le_rfl]
  rfl

/-- Loop 2's carried sums. -/
theorem s2_fst (f13 : Bf (F := F) c a13) : ∀ n ≤ 8, (s2 c X0 X1 X2 X3 X4 X5 X6 X7 X8 X9 f13 n).1 = sum2 c X0 X1 X2 X3 X4 X5 X6 X7 X8 X9 n
  | 0, _ => rfl
  | n + 1, h => by rw [s2_succ c X0 X1 X2 X3 X4 X5 X6 X7 X8 X9 f13 n h, s2_fst f13 n (by omega)]; rfl

/-- Loop 2's pieces are the blocks before, -/
theorem s2_mem (f13 : Bf (F := F) c a13) : ∀ n ≤ 8, ∀ p ∈ (s2 c X0 X1 X2 X3 X4 X5 X6 X7 X8 X9 f13 n).2,
    ∃ (j : ℕ) (o : Fin 2 → ℕ) (i : _), o 0 = 2048 * j ∧ o 1 = 0 ∧ p = ⟨Rect.unit (s := S16384x256) o S2048x256.size i, h2b c X0 X1 X2 X3 X4 X5 X6 X7 X8 X9 j⟩
  | 0, _, p, hp => absurd hp List.not_mem_nil
  | n + 1, h, p, hp => by
    rw [s2_succ c X0 X1 X2 X3 X4 X5 X6 X7 X8 X9 f13 n h] at hp
    rcases List.mem_cons.mp hp with hp | hp
    · exact ⟨n, _, _, (off4_val ⟨n, h⟩).1, (off4_val ⟨n, h⟩).2, hp⟩
    · exact s2_mem f13 n (by omega) p hp

/-- and every block before is among them. -/
theorem mem_s2 (f13 : Bf (F := F) c a13) : ∀ n ≤ 8, ∀ k < n, ∃ (o : Fin 2 → ℕ) (i : _), o 0 = 2048 * k ∧ o 1 = 0 ∧
    (⟨Rect.unit (s := S16384x256) o S2048x256.size i, h2b c X0 X1 X2 X3 X4 X5 X6 X7 X8 X9 k⟩ : View.Piece (Elt F) S16384x256 .f32) ∈ (s2 c X0 X1 X2 X3 X4 X5 X6 X7 X8 X9 f13 n).2
  | 0, _, k, hk => absurd hk (Nat.not_lt_zero _)
  | n + 1, h, k, hk => by
    rw [s2_succ c X0 X1 X2 X3 X4 X5 X6 X7 X8 X9 f13 n h]
    rcases Nat.lt_succ_iff_lt_or_eq.mp hk with hk | rfl
    · obtain ⟨o, i, h0, h1, hm⟩ := mem_s2 f13 n (by omega) k hk
      exact ⟨o, i, h0, h1, List.mem_cons_of_mem _ hm⟩
    · exact ⟨_, _, (off4_val ⟨k, h⟩).1, (off4_val ⟨k, h⟩).2, List.mem_cons_self⟩

/-! ## The eight blocks scaled and sent -/

/-- A block of the second scratch read past a write of another block. -/
theorem rd14_miss (j i : ℕ) (hij : i ≠ j) (off o : Fin 2 → ℕ) (h0 : off 0 = 2048 * j) (ho : o 0 = 2048 * i) (inb inb')
    (f : Bf (F := F) c a14) (w) (L : List (View.Piece (Elt F) S16384x256 .f32)) :
    View.readAt (Elt F) a14.view (Rect.unit (s := S16384x256) off S2048x256.size inb).toLoadRect
      (a14.view.writes (Elt F) f (⟨Rect.unit (s := S16384x256) o S2048x256.size inb', w⟩ :: L))
    = View.readAt (Elt F) a14.view (Rect.unit (s := S16384x256) off S2048x256.size inb).toLoadRect (a14.view.writes (Elt F) f L) := by
  funext x
  rw [View.readAt_apply, View.readAt_apply]
  refine View.read_writes_cons_miss_of_axis a14.view f _ L _ 0 (2048 * i) 2048 ho rfl rfl ?_
  have hx : (x 0).val < 2048 := (x 0).isLt
  have e0 : (((Rect.unit (s := S16384x256) off S2048x256.size inb).toLoadRect.idx x) 0).val = 2048 * j + (x 0).val := by
    show off 0 + 1 * (x 0).val = _
    rw [h0, Nat.one_mul]
  rw [e0]
  omega

/-- A block of the second scratch sent right after it is written. -/
theorem rd14_hit (off : Fin 2 → ℕ) (inb) (h) (f : Bf (F := F) c a14) (w) (L : List (View.Piece (Elt F) S16384x256 .f32)) :
    View.read (Elt F) (a14.slice (Rect.unit (s := S16384x256) off S2048x256.size inb) h).view
      (a14.view.writes (Elt F) f (⟨Rect.unit (s := S16384x256) off S2048x256.size inb, w⟩ :: L)) = w := by
  funext x
  exact View.read_writes_cons_emb a14.view f _ w L x

/-- The trips of loop 1 -/
theorem trips1 : Scf.trips k1_t1_loop.lb k1_t1_loop.ub k1_t1_loop.st = 8 := by decide
/-- and of loop 2. -/
theorem trips2 : Scf.trips k1_t2_loop.lb k1_t2_loop.ub k1_t2_loop.st = 8 := by decide

/-- The second scratch after loop 2 reads back block `k` of the second layer. -/
theorem rd_h2 (f13 : Bf (F := F) c a13) (f14 : Bf (F := F) c a14) (k : ℕ) (hk : k < 8) (off : Fin 2 → ℕ) (h0 : off 0 = 2048 * k)
    (h1 : off 1 = 0) (inb) :
    View.readAt (Elt F) a14.view (Rect.unit (s := S16384x256) off S2048x256.size inb).toLoadRect
      (a14.view.writes (Elt F) f14 (s2 c X0 X1 X2 X3 X4 X5 X6 X7 X8 X9 f13 8).2) = h2b c X0 X1 X2 X3 X4 X5 X6 X7 X8 X9 k :=
  rd14_blocks c (h2b c X0 X1 X2 X3 X4 X5 X6 X7 X8 X9) k _ h0 h1 inb f14 _ (s2_mem c X0 X1 X2 X3 X4 X5 X6 X7 X8 X9 f13 8 le_rfl) (mem_s2 c X0 X1 X2 X3 X4 X5 X6 X7 X8 X9 f13 8 le_rfl k hk)

/-- The second layer's mean -/
theorem r_eq (f13 : Bf (F := F) c a13) : fusedRun.sl.r c X0 X1 X2 X3 X4 X5 X6 X7 X8 X9 f13 = k1_pay14 (sum2 c X0 X1 X2 X3 X4 X5 X6 X7 X8 X9 8).1 := by
  have e := s2_fst c X0 X1 X2 X3 X4 X5 X6 X7 X8 X9 f13 8 le_rfl
  unfold s2 at e
  unfold fusedRun.sl.r
  rw [trips1]
  exact congrArg (fun q => k1_pay14 q.1) e
/-- and scale. -/
theorem r1_eq (f13 : Bf (F := F) c a13) : fusedRun.sl.r_1 c X0 X1 X2 X3 X4 X5 X6 X7 X8 X9 X10 f13 = k1_pay15 (sum2 c X0 X1 X2 X3 X4 X5 X6 X7 X8 X9 8).1 (sum2 c X0 X1 X2 X3 X4 X5 X6 X7 X8 X9 8).2 (rd10 c X10) := by
  have e := s2_fst c X0 X1 X2 X3 X4 X5 X6 X7 X8 X9 f13 8 le_rfl
  unfold s2 at e
  unfold fusedRun.sl.r_1
  rw [trips1]
  exact congrArg (fun q => k1_pay15 q.1 q.2 (rd10 c X10)) e

/-- The shift of the last step. -/
theorem r2_eq (f13 : Bf (F := F) c a13) : fusedRun.sl.r_2 c X0 X1 X2 X3 X4 X5 X6 X7 X8 X9 X10 X11 f13 =
    k1_pay16 (k1_pay14 (sum2 c X0 X1 X2 X3 X4 X5 X6 X7 X8 X9 8).1) (k1_pay15 (sum2 c X0 X1 X2 X3 X4 X5 X6 X7 X8 X9 8).1 (sum2 c X0 X1 X2 X3 X4 X5 X6 X7 X8 X9 8).2 (rd10 c X10)) (rd11 c X11) := by
  unfold fusedRun.sl.r_2
  rw [r_eq, r1_eq]

/-- The blocks not yet written over still read back the second layer: none written yet, -/
theorem left_0 (f13 : Bf (F := F) c a13) (f14 : Bf (F := F) c a14) (k : ℕ) (hk : k < 8) (off : Fin 2 → ℕ) (h0 : off 0 = 2048 * k)
    (h1 : off 1 = 0) (inb) : View.readAt (Elt F) a14.view (Rect.unit (s := S16384x256) off S2048x256.size inb).toLoadRect
      (a14.view.writes (Elt F) f14 (H14_0 c X0 X1 X2 X3 X4 X5 X6 X7 X8 X9 f13)) = h2b c X0 X1 X2 X3 X4 X5 X6 X7 X8 X9 k := by
  have e := rd_h2 c X0 X1 X2 X3 X4 X5 X6 X7 X8 X9 f13 f14 k hk off h0 h1 inb
  unfold s2 at e
  unfold H14_0
  rw [trips1]
  exact e
/-- 1 written. -/
theorem left_1 (f13 : Bf (F := F) c a13) (f14 : Bf (F := F) c a14) (k : ℕ) (hk : k < 8) (hn : 1 ≤ k) (off : Fin 2 → ℕ)
    (h0 : off 0 = 2048 * k) (h1 : off 1 = 0) (inb) :
    View.readAt (Elt F) a14.view (Rect.unit (s := S16384x256) off S2048x256.size inb).toLoadRect
      (a14.view.writes (Elt F) f14 (fusedRun.sl.H14_1 c X0 X1 X2 X3 X4 X5 X6 X7 X8 X9 X10 X11 f13 f14)) = h2b c X0 X1 X2 X3 X4 X5 X6 X7 X8 X9 k := by
  unfold fusedRun.sl.H14_1
  rw [rd14_miss c k 0 (by omega) off ![0, 0] h0 rfl]
  exact left_0 c X0 X1 X2 X3 X4 X5 X6 X7 X8 X9 f13 f14 k hk off h0 h1 inb
/-- 2 written. -/
theorem left_2 (f13 : Bf (F := F) c a13) (f14 : Bf (F := F) c a14) (k : ℕ) (hk : k < 8) (hn : 2 ≤ k) (off : Fin 2 → ℕ)
    (h0 : off 0 = 2048 * k) (h1 : off 1 = 0) (inb) :
    View.readAt (Elt F) a14.view (Rect.unit (s := S16384x256) off S2048x256.size inb).toLoadRect
      (a14.view.writes (Elt F) f14 (fusedRun.sl.H14_2 c X0 X1 X2 X3 X4 X5 X6 X7 X8 X9 X10 X11 f13 f14)) = h2b c X0 X1 X2 X3 X4 X5 X6 X7 X8 X9 k := by
  unfold fusedRun.sl.H14_2
  rw [rd14_miss c k 1 (by omega) off ![2048, 0] h0 rfl]
  exact left_1 c X0 X1 X2 X3 X4 X5 X6 X7 X8 X9 X10 X11 f13 f14 k hk (by omega) off h0 h1 inb
/-- 3 written. -/
theorem left_3 (f13 : Bf (F := F) c a13) (f14 : Bf (F := F) c a14) (k : ℕ) (hk : k < 8) (hn : 3 ≤ k) (off : Fin 2 → ℕ)
    (h0 : off 0 = 2048 * k) (h1 : off 1 = 0) (inb) :
    View.readAt (Elt F) a14.view (Rect.unit (s := S16384x256) off S2048x256.size inb).toLoadRect
      (a14.view.writes (Elt F) f14 (fusedRun.sl.H14_3 c X0 X1 X2 X3 X4 X5 X6 X7 X8 X9 X10 X11 f13 f14)) = h2b c X0 X1 X2 X3 X4 X5 X6 X7 X8 X9 k := by
  unfold fusedRun.sl.H14_3
  rw [rd14_miss c k 2 (by omega) off ![4096, 0] h0 rfl]
  exact left_2 c X0 X1 X2 X3 X4 X5 X6 X7 X8 X9 X10 X11 f13 f14 k hk (by omega) off h0 h1 inb
/-- 4 written. -/
theorem left_4 (f13 : Bf (F := F) c a13) (f14 : Bf (F := F) c a14) (k : ℕ) (hk : k < 8) (hn : 4 ≤ k) (off : Fin 2 → ℕ)
    (h0 : off 0 = 2048 * k) (h1 : off 1 = 0) (inb) :
    View.readAt (Elt F) a14.view (Rect.unit (s := S16384x256) off S2048x256.size inb).toLoadRect
      (a14.view.writes (Elt F) f14 (fusedRun.sl.H14_4 c X0 X1 X2 X3 X4 X5 X6 X7 X8 X9 X10 X11 f13 f14)) = h2b c X0 X1 X2 X3 X4 X5 X6 X7 X8 X9 k := by
  unfold fusedRun.sl.H14_4
  rw [rd14_miss c k 3 (by omega) off ![6144, 0] h0 rfl]
  exact left_3 c X0 X1 X2 X3 X4 X5 X6 X7 X8 X9 X10 X11 f13 f14 k hk (by omega) off h0 h1 inb
/-- 5 written. -/
theorem left_5 (f13 : Bf (F := F) c a13) (f14 : Bf (F := F) c a14) (k : ℕ) (hk : k < 8) (hn : 5 ≤ k) (off : Fin 2 → ℕ)
    (h0 : off 0 = 2048 * k) (h1 : off 1 = 0) (inb) :
    View.readAt (Elt F) a14.view (Rect.unit (s := S16384x256) off S2048x256.size inb).toLoadRect
      (a14.view.writes (Elt F) f14 (fusedRun.sl.H14_5 c X0 X1 X2 X3 X4 X5 X6 X7 X8 X9 X10 X11 f13 f14)) = h2b c X0 X1 X2 X3 X4 X5 X6 X7 X8 X9 k := by
  unfold fusedRun.sl.H14_5
  rw [rd14_miss c k 4 (by omega) off ![8192, 0] h0 rfl]
  exact left_4 c X0 X1 X2 X3 X4 X5 X6 X7 X8 X9 X10 X11 f13 f14 k hk (by omega) off h0 h1 inb
/-- 6 written. -/
theorem left_6 (f13 : Bf (F := F) c a13) (f14 : Bf (F := F) c a14) (k : ℕ) (hk : k < 8) (hn : 6 ≤ k) (off : Fin 2 → ℕ)
    (h0 : off 0 = 2048 * k) (h1 : off 1 = 0) (inb) :
    View.readAt (Elt F) a14.view (Rect.unit (s := S16384x256) off S2048x256.size inb).toLoadRect
      (a14.view.writes (Elt F) f14 (fusedRun.sl.H14_6 c X0 X1 X2 X3 X4 X5 X6 X7 X8 X9 X10 X11 f13 f14)) = h2b c X0 X1 X2 X3 X4 X5 X6 X7 X8 X9 k := by
  unfold fusedRun.sl.H14_6
  rw [rd14_miss c k 5 (by omega) off ![10240, 0] h0 rfl]
  exact left_5 c X0 X1 X2 X3 X4 X5 X6 X7 X8 X9 X10 X11 f13 f14 k hk (by omega) off h0 h1 inb
/-- 7 written. -/
theorem left_7 (f13 : Bf (F := F) c a13) (f14 : Bf (F := F) c a14) (k : ℕ) (hk : k < 8) (hn : 7 ≤ k) (off : Fin 2 → ℕ)
    (h0 : off 0 = 2048 * k) (h1 : off 1 = 0) (inb) :
    View.readAt (Elt F) a14.view (Rect.unit (s := S16384x256) off S2048x256.size inb).toLoadRect
      (a14.view.writes (Elt F) f14 (fusedRun.sl.H14_7 c X0 X1 X2 X3 X4 X5 X6 X7 X8 X9 X10 X11 f13 f14)) = h2b c X0 X1 X2 X3 X4 X5 X6 X7 X8 X9 k := by
  unfold fusedRun.sl.H14_7
  rw [rd14_miss c k 6 (by omega) off ![12288, 0] h0 rfl]
  exact left_6 c X0 X1 X2 X3 X4 X5 X6 X7 X8 X9 X10 X11 f13 f14 k hk (by omega) off h0 h1 inb
/-- Block 0 as it is sent. -/
theorem dma5_eq (f13 : Bf (F := F) c a13) (f14 : Bf (F := F) c a14) : fusedRun.sl.dma5 c X0 X1 X2 X3 X4 X5 X6 X7 X8 X9 X10 X11 f13 f14 = outb c X0 X1 X2 X3 X4 X5 X6 X7 X8 X9 X10 X11 0 := by
  have e := left_0 c X0 X1 X2 X3 X4 X5 X6 X7 X8 X9 f13 f14 0 (by decide) ![0, 0] rfl rfl inb_S16384x256_S2048x256_0_0
  unfold fusedRun.sl.dma5
  unfold fusedRun.sl.H14_1
  rw [rd14_hit]
  unfold H14_0 at e
  unfold fusedRun.sl.v40
  rw [e, r_eq, r1_eq]
  rfl

/-- Block 1 as it is sent. -/
theorem dma9_eq (f13 : Bf (F := F) c a13) (f14 : Bf (F := F) c a14) : fusedRun.sl.dma9 c X0 X1 X2 X3 X4 X5 X6 X7 X8 X9 X10 X11 f13 f14 = outb c X0 X1 X2 X3 X4 X5 X6 X7 X8 X9 X10 X11 1 := by
  have e := left_1 c X0 X1 X2 X3 X4 X5 X6 X7 X8 X9 X10 X11 f13 f14 1 (by decide) (by decide) ![2048, 0] rfl rfl inb_S16384x256_S2048x256_2048_0
  unfold fusedRun.sl.dma9
  unfold fusedRun.sl.H14_2
  rw [rd14_hit]
  rw [e, r_eq, r1_eq]
  rfl

/-- Block 2 as it is sent. -/
theorem dma13_eq (f13 : Bf (F := F) c a13) (f14 : Bf (F := F) c a14) : fusedRun.sl.dma13 c X0 X1 X2 X3 X4 X5 X6 X7 X8 X9 X10 X11 f13 f14 = outb c X0 X1 X2 X3 X4 X5 X6 X7 X8 X9 X10 X11 2 := by
  have e := left_2 c X0 X1 X2 X3 X4 X5 X6 X7 X8 X9 X10 X11 f13 f14 2 (by decide) (by decide) ![4096, 0] rfl rfl inb_S16384x256_S2048x256_4096_0
  unfold fusedRun.sl.dma13
  unfold fusedRun.sl.H14_3
  rw [rd14_hit]
  unfold fusedRun.sl.r_3
  rw [e, r_eq, r1_eq]
  rfl

/-- Block 3 as it is sent. -/
theorem dma17_eq (f13 : Bf (F := F) c a13) (f14 : Bf (F := F) c a14) : fusedRun.sl.dma17 c X0 X1 X2 X3 X4 X5 X6 X7 X8 X9 X10 X11 f13 f14 = outb c X0 X1 X2 X3 X4 X5 X6 X7 X8 X9 X10 X11 3 := by
  have e := left_3 c X0 X1 X2 X3 X4 X5 X6 X7 X8 X9 X10 X11 f13 f14 3 (by decide) (by decide) ![6144, 0] rfl rfl inb_S16384x256_S2048x256_6144_0
  unfold fusedRun.sl.dma17
  unfold fusedRun.sl.H14_4
  rw [rd14_hit]
  rw [e, r1_eq, r2_eq]
  rfl

/-- Block 4 as it is sent. -/
theorem dma21_eq (f13 : Bf (F := F) c a13) (f14 : Bf (F := F) c a14) : fusedRun.sl.dma21 c X0 X1 X2 X3 X4 X5 X6 X7 X8 X9 X10 X11 f13 f14 = outb c X0 X1 X2 X3 X4 X5 X6 X7 X8 X9 X10 X11 4 := by
  have e := left_4 c X0 X1 X2 X3 X4 X5 X6 X7 X8 X9 X10 X11 f13 f14 4 (by decide) (by decide) ![8192, 0] rfl rfl inb_S16384x256_S2048x256_8192_0
  unfold fusedRun.sl.dma21
  unfold fusedRun.sl.H14_5
  rw [rd14_hit]
  rw [e, r1_eq, r2_eq]
  rfl

/-- Block 5 as it is sent. -/
theorem dma25_eq (f13 : Bf (F := F) c a13) (f14 : Bf (F := F) c a14) : fusedRun.sl.dma25 c X0 X1 X2 X3 X4 X5 X6 X7 X8 X9 X10 X11 f13 f14 = outb c X0 X1 X2 X3 X4 X5 X6 X7 X8 X9 X10 X11 5 := by
  have e := left_5 c X0 X1 X2 X3 X4 X5 X6 X7 X8 X9 X10 X11 f13 f14 5 (by decide) (by decide) ![10240, 0] rfl rfl inb_S16384x256_S2048x256_10240_0
  unfold fusedRun.sl.dma25
  unfold fusedRun.sl.H14_6
  rw [rd14_hit]
  rw [e, r1_eq, r2_eq]
  rfl

/-- Block 6 as it is sent. -/
theorem dma29_eq (f13 : Bf (F := F) c a13) (f14 : Bf (F := F) c a14) : fusedRun.sl.dma29 c X0 X1 X2 X3 X4 X5 X6 X7 X8 X9 X10 X11 f13 f14 = outb c X0 X1 X2 X3 X4 X5 X6 X7 X8 X9 X10 X11 6 := by
  have e := left_6 c X0 X1 X2 X3 X4 X5 X6 X7 X8 X9 X10 X11 f13 f14 6 (by decide) (by decide) ![12288, 0] rfl rfl inb_S16384x256_S2048x256_12288_0
  unfold fusedRun.sl.dma29
  unfold fusedRun.sl.H14_7
  rw [rd14_hit]
  rw [e, r1_eq, r2_eq]
  rfl

/-- Block 7 as it is sent. -/
theorem dma33_eq (f13 : Bf (F := F) c a13) (f14 : Bf (F := F) c a14) : fusedRun.sl.dma33 c X0 X1 X2 X3 X4 X5 X6 X7 X8 X9 X10 X11 f13 f14 = outb c X0 X1 X2 X3 X4 X5 X6 X7 X8 X9 X10 X11 7 := by
  have e := left_7 c X0 X1 X2 X3 X4 X5 X6 X7 X8 X9 X10 X11 f13 f14 7 (by decide) (by decide) ![14336, 0] rfl rfl inb_S16384x256_S2048x256_14336_0
  unfold fusedRun.sl.dma33
  unfold fusedRun.sl.H14_8
  rw [rd14_hit]
  unfold fusedRun.sl.v133 fusedRun.sl.r_4
  rw [e, r1_eq, r2_eq]
  rfl

/-- Eight blocks sent to their rows make up the whole. -/
theorem writes_blocks (P : ℕ → S2048x256.Idx → F .f32) (f : Bf (F := F) c a12) :
    a12.view.writes (Elt F) f ([⟨Rect.unit (s := S16384x256) ![14336, 0] ![2048, 256] (by decide), P 7⟩,
        ⟨Rect.unit (s := S16384x256) ![12288, 0] ![2048, 256] inb_S16384x256_S2048x256_12288_0, P 6⟩,
        ⟨Rect.unit (s := S16384x256) ![10240, 0] ![2048, 256] inb_S16384x256_S2048x256_10240_0, P 5⟩,
        ⟨Rect.unit (s := S16384x256) ![8192, 0] ![2048, 256] inb_S16384x256_S2048x256_8192_0, P 4⟩,
        ⟨Rect.unit (s := S16384x256) ![6144, 0] ![2048, 256] inb_S16384x256_S2048x256_6144_0, P 3⟩,
        ⟨Rect.unit (s := S16384x256) ![4096, 0] ![2048, 256] inb_S16384x256_S2048x256_4096_0, P 2⟩,
        ⟨Rect.unit (s := S16384x256) ![2048, 0] ![2048, 256] inb_S16384x256_S2048x256_2048_0, P 1⟩,
        ⟨Rect.unit (s := S16384x256) ![0, 0] ![2048, 256] inb_S16384x256_S2048x256_0_0, P 0⟩] : List (View.Piece (Elt F) S16384x256 .f32)) = glue256 P := by
  have e : ∀ g : Bf (F := F) c a12, View.read (Elt F) a12.view g = g := fun _ => rfl
  rw [← e (a12.view.writes (Elt F) f _)]
  funext y
  refine View.read_writes_apply_of_pieces (Val := Elt F) a12.view f (glue256 P) _ ?_ y ?_
  · simp only [List.forall_mem_cons]
    refine ⟨?_, ?_, ?_, ?_, ?_, ?_, ?_, ?_, fun p hp => absurd hp List.not_mem_nil⟩
    · exact fun x => (glue256_emb P 7 ![14336, 0] rfl rfl _ x).symm
    · exact fun x => (glue256_emb P 6 ![12288, 0] rfl rfl _ x).symm
    · exact fun x => (glue256_emb P 5 ![10240, 0] rfl rfl _ x).symm
    · exact fun x => (glue256_emb P 4 ![8192, 0] rfl rfl _ x).symm
    · exact fun x => (glue256_emb P 3 ![6144, 0] rfl rfl _ x).symm
    · exact fun x => (glue256_emb P 2 ![4096, 0] rfl rfl _ x).symm
    · exact fun x => (glue256_emb P 1 ![2048, 0] rfl rfl _ x).symm
    · exact fun x => (glue256_emb P 0 ![0, 0] rfl rfl _ x).symm
  · have hy : (y 0).val < 16384 := (y 0).isLt
    have hy1 : (y 1).val < 256 := (y 1).isLt
    have key : ∀ (k : ℕ) (off : Fin 2 → ℕ) (_ : off 0 = 2048 * k) (_ : off 1 = 0) (inb), (y 0).val / 2048 = k →
        y ∈ (Rect.unit (s := S16384x256) off ![2048, 256] inb).set := fun k off h0 h1 inb h =>
      ((Rect.unit (s := S16384x256) off ![2048, 256] inb).mem_set).mpr fun a => by
        fin_cases a
        · exact ⟨(y 0).val % 2048, Nat.mod_lt _ (by decide), by
            show (y 0).val = off 0 + 1 * _
            rw [h0]; omega⟩
        · exact ⟨(y 1).val, hy1, by
            show (y 1).val = off 1 + 1 * _
            rw [h1]; omega⟩
    have hc : (y 0).val / 2048 = 0 ∨ (y 0).val / 2048 = 1 ∨ (y 0).val / 2048 = 2 ∨ (y 0).val / 2048 = 3 ∨ (y 0).val / 2048 = 4
        ∨ (y 0).val / 2048 = 5 ∨ (y 0).val / 2048 = 6 ∨ (y 0).val / 2048 = 7 := by omega
    rcases hc with h | h | h | h | h | h | h | h
    · exact ⟨_, .tail _ (.tail _ (.tail _ (.tail _ (.tail _ (.tail _ (.tail _ (.head _))))))), key 0 ![0, 0] rfl rfl (by decide) h⟩
    · exact ⟨_, .tail _ (.tail _ (.tail _ (.tail _ (.tail _ (.tail _ (.head _)))))), key 1 ![2048, 0] rfl rfl (by decide) h⟩
    · exact ⟨_, .tail _ (.tail _ (.tail _ (.tail _ (.tail _ (.head _))))), key 2 ![4096, 0] rfl rfl (by decide) h⟩
    · exact ⟨_, .tail _ (.tail _ (.tail _ (.tail _ (.head _)))), key 3 ![6144, 0] rfl rfl (by decide) h⟩
    · exact ⟨_, .tail _ (.tail _ (.tail _ (.head _))), key 4 ![8192, 0] rfl rfl (by decide) h⟩
    · exact ⟨_, .tail _ (.tail _ (.head _)), key 5 ![10240, 0] rfl rfl (by decide) h⟩
    · exact ⟨_, .tail _ (.head _), key 6 ![12288, 0] rfl rfl (by decide) h⟩
    · exact ⟨_, .head _, key 7 ![14336, 0] rfl rfl (by decide) h⟩

/-- What the fused kernel leaves in its result, whatever the result and the scratches held. -/
theorem fusedRun_eq (f12 : Bf (F := F) c a12) (f13 : Bf (F := F) c a13) (f14 : Bf (F := F) c a14) :
    (fusedRun c X0 X1 X2 X3 X4 X5 X6 X7 X8 X9 X10 X11 f12 f13 f14).1 = fusedOut c X0 X1 X2 X3 X4 X5 X6 X7 X8 X9 X10 X11 := by
  unfold fusedRun
  dsimp only
  rw [dma5_eq, dma9_eq, dma13_eq, dma17_eq, dma21_eq, dma25_eq, dma29_eq, dma33_eq]
  exact writes_blocks c (outb c X0 X1 X2 X3 X4 X5 X6 X7 X8 X9 X10 X11) _

end

end Cert.Proof.KI

end
-- ==== Proof.KI.PrepRun.lean ====
/-
  The prep kernel's run: from its five operands it leaves the five tables the fused kernel reads.
-/
module

public import proofs.«01_k».proof.Proof.KI.Loops
public import Idealize.ShloMosaic.Lib.Tactic
public import Idealize.ShloMosaic.Lib.Pipeline.Kit

@[expose] public section

set_option maxRecDepth 8192

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The prep kernel's operand 0. -/
abbrev p0 : Memref sig .tc .vmem S136x128 .f32 := Memref.whole cc0_stg0_0
/-- The prep kernel's operand 1. -/
abbrev p1 : Memref sig .tc .vmem S512x2176 .f32 := Memref.whole cc0_stg1_0
/-- The prep kernel's operand 2. -/
abbrev p2 : Memref sig .tc .vmem S64x128 .f32 := Memref.whole cc0_stg2_0
/-- The prep kernel's operand 3. -/
abbrev p3 : Memref sig .tc .vmem S1x128 .f32 := Memref.whole cc0_stg3_0
/-- The prep kernel's operand 4. -/
abbrev p4 : Memref sig .tc .vmem S1x512 .f32 := Memref.whole cc0_stg4_0
/-- The prep kernel's operand 5. -/
abbrev p5 : Memref sig .tc .vmem S256x512 .f32 := Memref.whole cc0_stg5_0
/-- The prep kernel's operand 6. -/
abbrev p6 : Memref sig .tc .vmem S64x512 .f32 := Memref.whole cc0_stg6_0
/-- The prep kernel's operand 7. -/
abbrev p7 : Memref sig .tc .vmem S8x512 .f32 := Memref.whole cc0_stg7_0
/-- The prep kernel's operand 8. -/
abbrev p8 : Memref sig .tc .vmem S16x256 .f32 := Memref.whole cc0_stg8_0
/-- The prep kernel's operand 9. -/
abbrev p9 : Memref sig .tc .vmem S8x256 .f32 := Memref.whole cc0_stg9_0

/-- Memref `M`'s buffer held whole on core `c` at contents `f`. -/
abbrev pb (c : Dev nD) {sp : Space} {S : Shape} {e : EltTy} (M : Memref sig .tc sp S e) (f : Bf (F := F) c M) : sProp 𝕄 :=
  M.view.loc (c : Thread nD τ) ↦{fullShare} f

/-- What the prep kernel leaves in its five results over its operands' contents, with the proof that it runs. -/
@[irreducible] def prepRun (c : Dev nD) (X0 : Bf (F := F) c p0) (X1 : Bf (F := F) c p1) (X2 : Bf (F := F) c p2) (X3 : Bf (F := F) c p3) (X4 : Bf (F := F) c p4) :
    Σ' (Y5 : Bf (F := F) c p5) (Y6 : Bf (F := F) c p6) (Y7 : Bf (F := F) c p7) (Y8 : Bf (F := F) c p8), { Y9 : Bf (F := F) c p9 //
      ∀ (y5 : Bf (F := F) c p5) (y6 : Bf (F := F) c p6) (y7 : Bf (F := F) c p7) (y8 : Bf (F := F) c p8) (y9 : Bf (F := F) c p9) (Q : PUnit → sProp 𝕄),
      iprop(pb c p0 X0 ∗ pb c p1 X1 ∗ pb c p2 X2 ∗ pb c p3 X3 ∗ pb c p4 X4 ∗ pb c p5 y5 ∗ pb c p6 y6 ∗ pb c p7 y7 ∗ pb c p8 y8 ∗ pb c p9 y9 ∗ (iprop(pb c p0 X0 ∗ pb c p1 X1 ∗ pb c p2 X2 ∗ pb c p3 X3 ∗ pb c p4 X4 ∗ pb c p5 Y5 ∗ pb c p6 Y6 ∗ pb c p7 Y7 ∗ pb c p8 Y8 ∗ pb c p9 Y9) -∗ Q ⟨⟩))
      ⊢ wp frame (wpE (defs₀ (F := F)) Variants.none (c : Thread nD τ) none) Set.univ (cc0__prep_kernel (F := F) p0 (Memref.isWhole_whole _) p1 (Memref.isWhole_whole _) p2 (Memref.isWhole_whole _) p3 (Memref.isWhole_whole _) p4 (Memref.isWhole_whole _) p5 (Memref.isWhole_whole _) p6 (Memref.isWhole_whole _) p7 (Memref.isWhole_whole _) p8 (Memref.isWhole_whole _) p9 (Memref.isWhole_whole _)) Q } := by
  refine ⟨?_, ?_, ?_, ?_, ?_, fun y5 y6 y7 y8 y9 Q => ?run⟩
  case run =>
    iintro ⟨H0, H1, H2, H3, H4, H5, H6, H7, H8, H9, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Proof.KI

end
-- ==== Proof.KI.Regions.lean ====
/-
  The two launches as segments of the program: each body runs to the contents its operands determine, and the
  launch leaves every array but its results as it found it.
-/
module

public import proofs.«01_k».proof.Proof.KI.FusedValue
public import proofs.«01_k».proof.Proof.KI.PrepRun
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionsLoop

@[expose] public section

set_option maxRecDepth 65536
set_option maxHeartbeats 400000

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Buffer `b` held whole on core `c` at contents `f`. -/
abbrev wb (c : Dev nD) (b : Ref sig .tc) (f : Buf (Elt F) ((c : Thread nD τ).loc b)) : sProp 𝕄 := ((c : Thread nD τ).loc b) ↦{fullShare} f

/-- A whole buffer held through a memref is the buffer held. -/
theorem pt_whole (c : Dev nD) (b : Ref sig .tc) (f : Buf (Elt F) ((c : Thread nD τ).loc b)) :
    (pt c (Memref.whole b) f : sProp 𝕄) = wb c b f := by
  have h : (Memref.whole b).view.set = Finset.univ := View.set_whole b
  exact congrArg (fun s : Finset _ => (((c : Thread nD τ).loc b) ↦[s]{fullShare} f : sProp 𝕄)) h

/-- The second launch's body, over whole buffers. -/
theorem fused_runs (c : Dev nD) (X0 : Bf (F := F) c a0) (X1 : Bf (F := F) c a1) (X2 : Bf (F := F) c a2) (X3 : Bf (F := F) c a3) (X4 : Bf (F := F) c a4) (X5 : Bf (F := F) c a5) (X6 : Bf (F := F) c a6) (X7 : Bf (F := F) c a7) (X8 : Bf (F := F) c a8) (X9 : Bf (F := F) c a9) (X10 : Bf (F := F) c a10) (X11 : Bf (F := F) c a11) (f12 : Bf (F := F) c a12) (f13 : Bf (F := F) c a13) (f14 : Bf (F := F) c a14) (W : Waits sig Unit) (Q : PUnit → sProp 𝕄) :
      iprop(wb c cc1_stg0_0 X0 ∗ wb c cc1_stg1_0 X1 ∗ wb c cc1_stg2_0 X2 ∗ wb c cc1_stg3_0 X3 ∗ wb c cc1_stg4_0 X4 ∗ wb c cc1_stg5_0 X5 ∗ wb c cc1_stg6_0 X6 ∗ wb c cc1_stg7_0 X7 ∗ wb c cc1_stg8_0 X8 ∗ wb c cc1_stg9_0 X9 ∗ wb c cc1_stg10_0 X10 ∗ wb c cc1_stg11_0 X11 ∗ wb c main_v12 f12 ∗ wb c cc1_scratch0 f13 ∗ wb c cc1_scratch1 f14
        ∗ semVal ((c : Thread nD τ), SemLoc.dma (sig := sig) 22) 0 ∗ owes (c : Thread nD τ) 0 W
        ∗ (iprop(wb c cc1_stg0_0 X0 ∗ wb c cc1_stg1_0 X1 ∗ wb c cc1_stg2_0 X2 ∗ wb c cc1_stg3_0 X3 ∗ wb c cc1_stg4_0 X4 ∗ wb c cc1_stg5_0 X5 ∗ wb c cc1_stg6_0 X6 ∗ wb c cc1_stg7_0 X7 ∗ wb c cc1_stg8_0 X8 ∗ wb c cc1_stg9_0 X9 ∗ wb c cc1_stg10_0 X10 ∗ wb c cc1_stg11_0 X11 ∗ wb c main_v12 (fusedOut c X0 X1 X2 X3 X4 X5 X6 X7 X8 X9 X10 X11) ∗ (∃ f, wb c cc1_scratch0 f) ∗ (∃ f, wb c cc1_scratch1 f)
            ∗ semVal ((c : Thread nD τ), SemLoc.dma (sig := sig) 22) 0 ∗ ∃ W, owes (c : Thread nD τ) 0 W) -∗ Q ⟨⟩))
      ⊢ wp frame (wpE (defs₀ (F := F)) Variants.none (c : Thread nD τ) none) Set.univ (cc1__fused_kernel (F := F) a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) cc1_scratch2) Q := by
  have h := (fusedRun c X0 X1 X2 X3 X4 X5 X6 X7 X8 X9 X10 X11 f12 f13 f14).2 W Q
  rw [fusedRun_eq, pt_whole c cc1_stg0_0 X0, pt_whole c cc1_stg1_0 X1, pt_whole c cc1_stg2_0 X2, pt_whole c cc1_stg3_0 X3, pt_whole c cc1_stg4_0 X4, pt_whole c cc1_stg5_0 X5, pt_whole c cc1_stg6_0 X6, pt_whole c cc1_stg7_0 X7, pt_whole c cc1_stg8_0 X8, pt_whole c cc1_stg9_0 X9, pt_whole c cc1_stg10_0 X10, pt_whole c cc1_stg11_0 X11, pt_whole c cc1_scratch0 f13, pt_whole c cc1_scratch1 f14] at h
  simp only [pt_whole c cc1_scratch0, pt_whole c cc1_scratch1] at h
  exact h

/-- What the TensorCore owes between items: nothing. -/
abbrev owesNone (c : Dev nD) : sProp 𝕄 := iprop(∃ W, owes (c : Thread nD τ) (0 : CellTallies nD τ sig Unit) W)

/-- A valuation of a core's buffers. -/
abbrev Vals (F : FTy → Type) [FloatOps F] : Type := (c : Dev nD) → (b : Ref sig .tc) → Buf (Elt F) ((c : Thread nD τ).loc b)

variable (V : Vals F)
/-- The first launch's operand 0, staged. -/
abbrev s0_0 (c : Dev nD) : Bf (F := F) c p0 := ((cfg0.win 0).blk t0_0).view.read (Elt F) (V c main_v0)
/-- The first launch's operand 1, staged. -/
abbrev s0_1 (c : Dev nD) : Bf (F := F) c p1 := ((cfg0.win 1).blk t0_0).view.read (Elt F) (V c main_arg4)
/-- The first launch's operand 2, staged. -/
abbrev s0_2 (c : Dev nD) : Bf (F := F) c p2 := ((cfg0.win 2).blk t0_0).view.read (Elt F) (V c main_v2)
/-- The first launch's operand 3, staged. -/
abbrev s0_3 (c : Dev nD) : Bf (F := F) c p3 := ((cfg0.win 3).blk t0_0).view.read (Elt F) (V c main_v3)
/-- The first launch's operand 4, staged. -/
abbrev s0_4 (c : Dev nD) : Bf (F := F) c p4 := ((cfg0.win 4).blk t0_0).view.read (Elt F) (V c main_v4)
/-- The second launch's operand 0, staged. -/
abbrev s1_0 (c : Dev nD) : Bf (F := F) c a0 := ((cfg1.win 0).blk t1_0).view.read (Elt F) (V c main_v6)
/-- The second launch's operand 1, staged. -/
abbrev s1_1 (c : Dev nD) : Bf (F := F) c a1 := ((cfg1.win 1).blk t1_0).view.read (Elt F) (V c main_v5_0)
/-- The second launch's operand 2, staged. -/
abbrev s1_2 (c : Dev nD) : Bf (F := F) c a2 := ((cfg1.win 2).blk t1_0).view.read (Elt F) (V c main_v5_1)
/-- The second launch's operand 3, staged. -/
abbrev s1_3 (c : Dev nD) : Bf (F := F) c a3 := ((cfg1.win 3).blk t1_0).view.read (Elt F) (V c main_v5_2)
/-- The second launch's operand 4, staged. -/
abbrev s1_4 (c : Dev nD) : Bf (F := F) c a4 := ((cfg1.win 4).blk t1_0).view.read (Elt F) (V c main_v5_3)
/-- The second launch's operand 5, staged. -/
abbrev s1_5 (c : Dev nD) : Bf (F := F) c a5 := ((cfg1.win 5).blk t1_0).view.read (Elt F) (V c main_v5_4)
/-- The second launch's operand 6, staged. -/
abbrev s1_6 (c : Dev nD) : Bf (F := F) c a6 := ((cfg1.win 6).blk t1_0).view.read (Elt F) (V c main_v7)
/-- The second launch's operand 7, staged. -/
abbrev s1_7 (c : Dev nD) : Bf (F := F) c a7 := ((cfg1.win 7).blk t1_0).view.read (Elt F) (V c main_v8)
/-- The second launch's operand 8, staged. -/
abbrev s1_8 (c : Dev nD) : Bf (F := F) c a8 := ((cfg1.win 8).blk t1_0).view.read (Elt F) (V c main_arg8)
/-- The second launch's operand 9, staged. -/
abbrev s1_9 (c : Dev nD) : Bf (F := F) c a9 := ((cfg1.win 9).blk t1_0).view.read (Elt F) (V c main_v9)
/-- The second launch's operand 10, staged. -/
abbrev s1_10 (c : Dev nD) : Bf (F := F) c a10 := ((cfg1.win 10).blk t1_0).view.read (Elt F) (V c main_v10)
/-- The second launch's operand 11, staged. -/
abbrev s1_11 (c : Dev nD) : Bf (F := F) c a11 := ((cfg1.win 11).blk t1_0).view.read (Elt F) (V c main_v11)
/-- The first launch's run over its staged operands. -/
abbrev run0 (c : Dev nD) := prepRun c (s0_0 V c) (s0_1 V c) (s0_2 V c) (s0_3 V c) (s0_4 V c)
/-- What the second launch leaves in the result. -/
abbrev fin1 (c : Dev nD) : Bf (F := F) c a12 := fusedOut c (s1_0 V c) (s1_1 V c) (s1_2 V c) (s1_3 V c) (s1_4 V c) (s1_5 V c) (s1_6 V c) (s1_7 V c) (s1_8 V c) (s1_9 V c) (s1_10 V c) (s1_11 V c)
/-- The first launch's invariant: the scoped buffers no window stages. -/
abbrev Φ0 (c : Dev nD) : sProp 𝕄 := Pipeline.scopedRest (Ix := Unit) (Name := ℕ) (U := UU) (Lvl := ℕ) (Val := Elt F) spec0 c
/-- The second launch's invariant: the result at `Y`, the transfer semaphore at zero, the scoped buffers no window stages. -/
abbrev Φ1 (c : Dev nD) (Y : Buf (Elt F) ((c : Thread nD τ).loc main_v12)) : sProp 𝕄 :=
  iprop((((c : Thread nD τ).loc main_v12) ↦{fullShare} Y) ∗ semVal ((c : Thread nD τ), SemLoc.dma (sig := sig) 22) 0
    ∗ Pipeline.scopedRest (Ix := Unit) (Name := ℕ) (U := UU) (Lvl := ℕ) (Val := Elt F) spec1 c)

/-- The first launch's proof data. -/
def dat0 (c : Dev nD) : Dat τ (Elt F) Unit ℕ UU ℕ cfg0 c where
  A w := V c (Pipeline.arrRef spec0 w)
  after w _ := match w with
    | ⟨0, _⟩ => s0_0 V c
    | ⟨1, _⟩ => s0_1 V c
    | ⟨2, _⟩ => s0_2 V c
    | ⟨3, _⟩ => s0_3 V c
    | ⟨4, _⟩ => s0_4 V c
    | ⟨5, _⟩ => (run0 V c).1
    | ⟨6, _⟩ => (run0 V c).2.1
    | ⟨7, _⟩ => (run0 V c).2.2.1
    | ⟨8, _⟩ => (run0 V c).2.2.2.1
    | ⟨9, _⟩ => (run0 V c).2.2.2.2.1
  Φ _ := Φ0 c
  q _ := fullShare
  owed _ := 0

/-- The second launch's proof data. -/
def dat1 (c : Dev nD) : Dat τ (Elt F) Unit ℕ UU ℕ cfg1 c where
  A w := V c (Pipeline.arrRef spec1 w)
  after w _ := match w with
    | ⟨0, _⟩ => s1_0 V c
    | ⟨1, _⟩ => s1_1 V c
    | ⟨2, _⟩ => s1_2 V c
    | ⟨3, _⟩ => s1_3 V c
    | ⟨4, _⟩ => s1_4 V c
    | ⟨5, _⟩ => s1_5 V c
    | ⟨6, _⟩ => s1_6 V c
    | ⟨7, _⟩ => s1_7 V c
    | ⟨8, _⟩ => s1_8 V c
    | ⟨9, _⟩ => s1_9 V c
    | ⟨10, _⟩ => s1_10 V c
    | ⟨11, _⟩ => s1_11 V c
  Φ t := if t.val = 0 then Φ1 c (V c main_v12) else Φ1 c (fin1 V c)
  q _ := fullShare
  owed _ := 0

/-- The proof data of both launches, over the contents each finds. -/
def pd (V₀ V₁ : Vals F) : (p : Fin 2) → (c : Dev nD) → Dat τ (Elt F) Unit ℕ UU ℕ (Pipeline.pin (pcfgs (F := F)) adm p) c
  | ⟨0, _⟩ => fun c => dat0 V₀ c
  | ⟨1, _⟩ => fun c => dat1 V₁ c

theorem before0_0 (c : Dev nD) (d) : (dat0 V c).before 0 t0_0 d = s0_0 V c := by
  unfold Dat.before; rw [if_pos (by decide)]; rfl
theorem before0_1 (c : Dev nD) (d) : (dat0 V c).before 1 t0_0 d = s0_1 V c := by
  unfold Dat.before; rw [if_pos (by decide)]; rfl
theorem before0_2 (c : Dev nD) (d) : (dat0 V c).before 2 t0_0 d = s0_2 V c := by
  unfold Dat.before; rw [if_pos (by decide)]; rfl
theorem before0_3 (c : Dev nD) (d) : (dat0 V c).before 3 t0_0 d = s0_3 V c := by
  unfold Dat.before; rw [if_pos (by decide)]; rfl
theorem before0_4 (c : Dev nD) (d) : (dat0 V c).before 4 t0_0 d = s0_4 V c := by
  unfold Dat.before; rw [if_pos (by decide)]; rfl
theorem before1_0 (c : Dev nD) (d) : (dat1 V c).before 0 t1_0 d = s1_0 V c := by
  unfold Dat.before; rw [if_pos (by decide)]; rfl
theorem before1_1 (c : Dev nD) (d) : (dat1 V c).before 1 t1_0 d = s1_1 V c := by
  unfold Dat.before; rw [if_pos (by decide)]; rfl
theorem before1_2 (c : Dev nD) (d) : (dat1 V c).before 2 t1_0 d = s1_2 V c := by
  unfold Dat.before; rw [if_pos (by decide)]; rfl
theorem before1_3 (c : Dev nD) (d) : (dat1 V c).before 3 t1_0 d = s1_3 V c := by
  unfold Dat.before; rw [if_pos (by decide)]; rfl
theorem before1_4 (c : Dev nD) (d) : (dat1 V c).before 4 t1_0 d = s1_4 V c := by
  unfold Dat.before; rw [if_pos (by decide)]; rfl
theorem before1_5 (c : Dev nD) (d) : (dat1 V c).before 5 t1_0 d = s1_5 V c := by
  unfold Dat.before; rw [if_pos (by decide)]; rfl
theorem before1_6 (c : Dev nD) (d) : (dat1 V c).before 6 t1_0 d = s1_6 V c := by
  unfold Dat.before; rw [if_pos (by decide)]; rfl
theorem before1_7 (c : Dev nD) (d) : (dat1 V c).before 7 t1_0 d = s1_7 V c := by
  unfold Dat.before; rw [if_pos (by decide)]; rfl
theorem before1_8 (c : Dev nD) (d) : (dat1 V c).before 8 t1_0 d = s1_8 V c := by
  unfold Dat.before; rw [if_pos (by decide)]; rfl
theorem before1_9 (c : Dev nD) (d) : (dat1 V c).before 9 t1_0 d = s1_9 V c := by
  unfold Dat.before; rw [if_pos (by decide)]; rfl
theorem before1_10 (c : Dev nD) (d) : (dat1 V c).before 10 t1_0 d = s1_10 V c := by
  unfold Dat.before; rw [if_pos (by decide)]; rfl
theorem before1_11 (c : Dev nD) (d) : (dat1 V c).before 11 t1_0 d = s1_11 V c := by
  unfold Dat.before; rw [if_pos (by decide)]; rfl

/-- The first launch's body runs from its staged operands to its results. -/
theorem body0 (c : Dev nD) : BodyObligation (dat0 V c) (defs₀ (F := F)) Variants.none () Set.univ := fun t => by
  obtain rfl := fin_N0 t
  rw [bigSep_W0, bigSep_W0]
  simp only [owns_whole_eq]
  rw [show (dat0 V c).Φ t0_0.castSucc = Φ0 c from rfl, show (dat0 V c).Φ t0_0.succ = Φ0 c from rfl,
    show (dat0 V c).owesAt () t0_0.succ = (dat0 V c).owesAt () t0_0.castSucc from rfl]
  iintro ⟨HΦ, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩, ⟨%d6, %f6, -, H6⟩, ⟨%d7, %f7, -, H7⟩, ⟨%d8, %f8, -, H8⟩, ⟨%d9, %f9, -, H9⟩⟩
  rw [before0_0] at hf0; subst hf0
  rw [before0_1] at hf1; subst hf1
  rw [before0_2] at hf2; subst hf2
  rw [before0_3] at hf3; subst hf3
  rw [before0_4] at hf4; subst hf4
  iapply ((run0 V c).2.2.2.2.2 f5 f6 f7 f8 f9 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [HO]; · iexact HO
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  isplitl [H5]; · iexists _; isplitr; swap; (· iexact H5); ipureintro; dsimp only [dat0]
  isplitl [H6]; · iexists _; isplitr; swap; (· iexact H6); ipureintro; dsimp only [dat0]
  isplitl [H7]; · iexists _; isplitr; swap; (· iexact H7); ipureintro; dsimp only [dat0]
  isplitl [H8]; · iexists _; isplitr; swap; (· iexact H8); ipureintro; dsimp only [dat0]
  iexists _; isplitr; swap; (· iexact H9); ipureintro; dsimp only [dat0]

/-- The second launch's body runs from its staged operands to the result. -/
theorem body1 (c : Dev nD) : BodyObligation (dat1 V c) (defs₀ (F := F)) Variants.none () Set.univ := fun t => by
  obtain rfl := fin_N1 t
  rw [bigSep_W1, bigSep_W1]
  simp only [owns_whole_eq]
  rw [show (dat1 V c).Φ t1_0.castSucc = Φ1 c (V c main_v12) from (if_pos rfl : (if (0 : ℕ) = 0 then Φ1 c (V c main_v12) else Φ1 c (fin1 V c)) = _),
    show (dat1 V c).Φ t1_0.succ = Φ1 c (fin1 V c) from (if_neg (by decide) : (if (1 : ℕ) = 0 then Φ1 c (V c main_v12) else Φ1 c (fin1 V c)) = _)]
  unfold Φ1 Dat.owesAt Pipeline.owesWithin
  rw [scopedRest1_eq]
  rw [show (dat1 V c).owed t1_0.castSucc = 0 from rfl, show (dat1 V c).owed t1_0.succ = 0 from rfl]
  iintro ⟨⟨H12, Hd, Hs0, Hs1, Hs2, Hs3, Hs4, Hs5, Hs6, Hs7, Hs8, Hs9, ⟨%f13, H13⟩, ⟨%f14, H14⟩⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
  rw [before1_0] at hf0; subst hf0
  rw [before1_1] at hf1; subst hf1
  rw [before1_2] at hf2; subst hf2
  rw [before1_3] at hf3; subst hf3
  rw [before1_4] at hf4; subst hf4
  rw [before1_5] at hf5; subst hf5
  rw [before1_6] at hf6; subst hf6
  rw [before1_7] at hf7; subst hf7
  rw [before1_8] at hf8; subst hf8
  rw [before1_9] at hf9; subst hf9
  rw [before1_10] at hf10; subst hf10
  rw [before1_11] at hf11; subst hf11
  iapply (fused_runs c (s1_0 V c) (s1_1 V c) (s1_2 V c) (s1_3 V c) (s1_4 V c) (s1_5 V c) (s1_6 V c) (s1_7 V c) (s1_8 V c) (s1_9 V c) (s1_10 V c) (s1_11 V c) (V c main_v12) f13 f14 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hd]; · iexact Hd
  isplitl [HO]; · iexact HO
  iintro ⟨H0, H1, H2, H3, H4, H5, H6, H7, H8, H9, H10, H11, H12, ⟨%g13, H13⟩, ⟨%g14, H14⟩, Hd, ⟨%W', HO⟩⟩
  isplitl [H12 Hd Hs0 Hs1 Hs2 Hs3 Hs4 Hs5 Hs6 Hs7 Hs8 Hs9 H13 H14]
  · isplitl [H12]; · iexact H12
    isplitl [Hd]; · iexact Hd
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [H13]; · iexists _; iexact H13
    iexists _; iexact H14
  isplitl [HO]
  · iexists W'; isplitr
    · ipureintro; exact fun _ _ => Or.inl trivial
    iexact HO
  isplitl [H0]; · iexists _; isplitr; swap; (· iexact H0); ipureintro; dsimp only [dat1]
  isplitl [H1]; · iexists _; isplitr; swap; (· iexact H1); ipureintro; dsimp only [dat1]
  isplitl [H2]; · iexists _; isplitr; swap; (· iexact H2); ipureintro; dsimp only [dat1]
  isplitl [H3]; · iexists _; isplitr; swap; (· iexact H3); ipureintro; dsimp only [dat1]
  isplitl [H4]; · iexists _; isplitr; swap; (· iexact H4); ipureintro; dsimp only [dat1]
  isplitl [H5]; · iexists _; isplitr; swap; (· iexact H5); ipureintro; dsimp only [dat1]
  isplitl [H6]; · iexists _; isplitr; swap; (· iexact H6); ipureintro; dsimp only [dat1]
  isplitl [H7]; · iexists _; isplitr; swap; (· iexact H7); ipureintro; dsimp only [dat1]
  isplitl [H8]; · iexists _; isplitr; swap; (· iexact H8); ipureintro; dsimp only [dat1]
  isplitl [H9]; · iexists _; isplitr; swap; (· iexact H9); ipureintro; dsimp only [dat1]
  isplitl [H10]; · iexists _; isplitr; swap; (· iexact H10); ipureintro; dsimp only [dat1]
  iexists _; isplitr; swap; (· iexact H11); ipureintro; dsimp only [dat1]

/-- The first launch's operands are no results, and no result is among their buffers. -/
theorem ins0 : ∀ w : Fin 10, ¬ 5 ≤ w.val → (spec0 w).isOut = false ∧ Pipeline.arrRef spec0 w ≠ main_v5_0 ∧ Pipeline.arrRef spec0 w ≠ main_v5_1
    ∧ Pipeline.arrRef spec0 w ≠ main_v5_2 ∧ Pipeline.arrRef spec0 w ≠ main_v5_3 ∧ Pipeline.arrRef spec0 w ≠ main_v5_4 := by decide
/-- The second launch's windows are operands, none of them the result. -/
theorem ins1 : ∀ w : Fin 12, (spec1 w).isOut = false ∧ Pipeline.arrRef spec1 w ≠ main_v12 := by decide

set_option backward.isDefEq.respectTransparency.types false in
/-- The first launch as a segment: from the buffers at `V` to the buffers at `Vp`, its five results changed. -/
def reg0 (V₁ Vp : Vals F)
    (hout : ∀ c (w : Fin 10), 5 ≤ w.val → Vp c (Pipeline.arrRef spec0 w) = (dat0 V c).arrAt w cfg0.N)
    (hne : ∀ c b, b ≠ main_v5_0 → b ≠ main_v5_1 → b ≠ main_v5_2 → b ≠ main_v5_3 → b ≠ main_v5_4 → Vp c b = V c b) :
    Pipeline.RegionSeg (pcfgs (F := F)) adm (pd V V₁) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body0 V c).loose
  hwaits := Pipeline.hwaits_of_owed_zero _ _ _ _ (fun _ => ∅) (fun _ _ => 0) 0 fun _ _ => rfl
  pre c := iprop(unscopedBufs c (V c) ∗ owesNone c)
  post c := iprop(unscopedBufs c (Vp c) ∗ owesNone c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pd V V₁) launch0.win launch0.arr_whole c
      ((pd V V₁ 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]; iempintro
    isplitl [HO]
    · unfold Pipeline.Dat.owesAt Pipeline.owesWithin
      icases HO with ⟨%W, HO⟩
      iexists W; isplitr
      · ipureintro; exact fun _ _ => Or.inl trivial
      iexact HO
    isplitr; · iempintro
    iexact Hrest
  hin c := by
    rw [show (pd V V₁ 0 c).Φ 0 = Φ0 c from rfl]
    iintro ⟨-, -, Hr⟩; iexact Hr
  hout c := by
    rw [Pipeline.ownSems0_none, show (pd V V₁ 0 c).Φ (Fin.last _) = Φ0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ)
      launch0.win launch0.arr_whole c (pd V V₁) ((pd V V₁ 0 c).share_full fun _ => rfl) (V c) (Vp c)
      ((pd V V₁ 0 c).arrAt · cfg0.N)
      (fun w => by
        by_cases h : 5 ≤ w.val
        · exact (hout c w h).symm
        · obtain ⟨hi, h0, h1, h2, h3, h4⟩ := ins0 w h
          exact ((dat0 V c).arrAt_in w hi _).trans (hne c _ h0 h1 h2 h3 h4).symm)
      (fun b hb => hne c b (fun h => hb (h ▸ Finset.mem_image.mpr ⟨5, Finset.mem_univ _, rfl⟩)) (fun h => hb (h ▸ Finset.mem_image.mpr ⟨6, Finset.mem_univ _, rfl⟩)) (fun h => hb (h ▸ Finset.mem_image.mpr ⟨7, Finset.mem_univ _, rfl⟩)) (fun h => hb (h ▸ Finset.mem_image.mpr ⟨8, Finset.mem_univ _, rfl⟩)) (fun h => hb (h ▸ Finset.mem_image.mpr ⟨9, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩
    iexists W; iexact HO

/-- The buffers the second launch leaves alone. -/
abbrev rest1 (c : Dev nD) : sProp 𝕄 := iprop((((c : Thread nD τ).loc main_arg0) ↦{fullShare} V c main_arg0) ∗ (((c : Thread nD τ).loc main_arg1) ↦{fullShare} V c main_arg1) ∗ (((c : Thread nD τ).loc main_arg2) ↦{fullShare} V c main_arg2) ∗ (((c : Thread nD τ).loc main_arg3) ↦{fullShare} V c main_arg3) ∗ (((c : Thread nD τ).loc main_arg4) ↦{fullShare} V c main_arg4) ∗ (((c : Thread nD τ).loc main_arg5) ↦{fullShare} V c main_arg5) ∗ (((c : Thread nD τ).loc main_arg6) ↦{fullShare} V c main_arg6) ∗ (((c : Thread nD τ).loc main_arg7) ↦{fullShare} V c main_arg7) ∗ (((c : Thread nD τ).loc main_arg9) ↦{fullShare} V c main_arg9) ∗ (((c : Thread nD τ).loc main_arg10) ↦{fullShare} V c main_arg10) ∗ (((c : Thread nD τ).loc main_arg11) ↦{fullShare} V c main_arg11) ∗ (((c : Thread nD τ).loc main_c) ↦{fullShare} V c main_c) ∗ (((c : Thread nD τ).loc main_call0_v0) ↦{fullShare} V c main_call0_v0) ∗ (((c : Thread nD τ).loc main_v0) ↦{fullShare} V c main_v0) ∗ (((c : Thread nD τ).loc main_v1) ↦{fullShare} V c main_v1) ∗ (((c : Thread nD τ).loc main_c_0) ↦{fullShare} V c main_c_0) ∗ (((c : Thread nD τ).loc main_call1_v0) ↦{fullShare} V c main_call1_v0) ∗ (((c : Thread nD τ).loc main_v2) ↦{fullShare} V c main_v2) ∗ (((c : Thread nD τ).loc main_v3) ↦{fullShare} V c main_v3) ∗ (((c : Thread nD τ).loc main_v4) ↦{fullShare} V c main_v4))

/-- The second launch's own semaphore. -/
abbrev osem1 : Fin 1 → SemLoc sig := fun _ => .dma 22

/-- It, alone. -/
theorem ownSems1_eq (c : Dev nD) : (Pipeline.ownSems0 (Ix := Unit) (Name := ℕ) (U := UU) (Lvl := ℕ) (Val := Elt F) (τ := τ) osem1 c : sProp 𝕄)
    = semVal ((c : Thread nD τ), SemLoc.dma (sig := sig) 22) 0 :=
  Pipeline.ownSems0_eq_of_list c osem1 [0] (by decide) (by decide)

set_option backward.isDefEq.respectTransparency.types false in
/-- The second launch as a segment: from the buffers at `V` to the buffers at `Vp`, the result changed. -/
def reg1 (V₀ Vp : Vals F) (hout : ∀ c, Vp c main_v12 = fin1 V c) (hne : ∀ c b, b ≠ main_v12 → Vp c b = V c b) :
    Pipeline.RegionSeg (pcfgs (F := F)) adm (pd V₀ V) () defs₀ Variants.none (fun _ => ∅) (fun _ _ => 0) 1 where
  win := launch1.win.to₀
  block_pos := launch1.block_pos
  stage_whole := launch1.stage_whole
  K := Fin 1
  osem := osem1
  ho := (by decide : Pipeline.OwnSemFacts spec1 osem1)
  hbody c := (body1 V c).loose
  hwaits := Pipeline.hwaits_of_owed_zero _ _ _ _ (fun _ => ∅) (fun _ _ => 0) 1 fun _ _ => rfl
  pre c := iprop(unscopedBufs c (V c) ∗ owesNone c)
  post c := iprop(unscopedBufs c (Vp c) ∗ owesNone c)
  X c := iprop((((c : Thread nD τ).loc main_v12) ↦{fullShare} V c main_v12) ∗ semVal ((c : Thread nD τ), SemLoc.dma (sig := sig) 22) 0)
  Y c := (((c : Thread nD τ).loc main_v12) ↦{fullShare} (fin1 V c : Buf (Elt F) ((c : Thread nD τ).loc main_v12)))
  Z c := rest1 V c
  hentry c := by
    rw [ownSems1_eq]
    have hsplit := Pipeline.arrays_of_unscopedBufs (p := 1) (pcfgs (F := F)) adm (pd V₀ V) launch1.win launch1.arr_whole c
      ((pd V₀ V 1 c).share_full fun _ => rfl) (V c) fun _ => rfl
    rw [show (Pipeline.unscopedRest (Ix := Unit) (Name := ℕ) (U := UU) (Lvl := ℕ) (Pipeline.pin (pcfgs (F := F)) adm 1).spec c (V c) : sProp 𝕄)
      = _ from unscopedRest1_eq c (V c)] at hsplit
    iintro ⟨⟨Hub, HO⟩, Hos, -⟩
    ihave H := hsplit $$ Hub
    icases H with ⟨Ha, R0, R1, R2, R3, R4, R5, R6, R7, R8, R9, R10, R11, R12, R13, R14, R15, R16, R17, R18, R19, H12⟩
    imodintro
    isplitl [Ha]; · iexact Ha
    isplitr
    · unfold Pipeline.prefHeld
      rw [show (Finset.univ : Finset (Fin 0)) = ∅ from rfl, BI.bigSep_empty]; iempintro
    isplitl [HO]
    · unfold Pipeline.Dat.owesAt Pipeline.owesWithin
      icases HO with ⟨%W, HO⟩
      iexists W; isplitr
      · ipureintro; exact fun _ _ => Or.inl trivial
      iexact HO
    isplitl [H12 Hos]
    · isplitl [H12] <;> iassumption
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    iexact R19
  hin c := by
    rw [show (pd V₀ V 1 c).Φ 0 = Φ1 c (V c main_v12) from (if_pos rfl : (if (0 : ℕ) = 0 then Φ1 c (V c main_v12) else Φ1 c (fin1 V c)) = _)]
    iintro ⟨⟨H12, Hos⟩, -, Hr⟩
    isplitl [H12]; · iexact H12
    isplitl [Hos]; · iexact Hos
    iexact Hr
  hout c := by
    rw [ownSems1_eq, show (pd V₀ V 1 c).Φ (Fin.last _) = Φ1 c (fin1 V c) from (if_neg (by decide) : (if (1 : ℕ) = 0 then Φ1 c (V c main_v12) else Φ1 c (fin1 V c)) = _)]
    exact .rfl
  hexit c := by
    have hjoin := Pipeline.unscopedBufs_of_arrays (p := 1) (pcfgs (F := F)) adm (Ix := Unit) (Name := ℕ) (U := UU) (Lvl := ℕ)
      launch1.win launch1.arr_whole c (pd V₀ V) ((pd V₀ V 1 c).share_full fun _ => rfl) (Vp c) (Vp c)
      ((pd V₀ V 1 c).arrAt · cfg1.N)
      (fun w => by
        obtain ⟨hi, h0⟩ := ins1 w
        exact ((dat1 V c).arrAt_in w hi _).trans (hne c _ h0).symm)
      (fun _ _ => rfl)
    rw [show (Pipeline.unscopedRest (Ix := Unit) (Name := ℕ) (U := UU) (Lvl := ℕ) (Pipeline.pin (pcfgs (F := F)) adm 1).spec c (Vp c) : sProp 𝕄)
      = _ from unscopedRest1_eq c (Vp c), hout c, hne c main_arg0 (by decide), hne c main_arg1 (by decide), hne c main_arg2 (by decide), hne c main_arg3 (by decide), hne c main_arg4 (by decide), hne c main_arg5 (by decide), hne c main_arg6 (by decide), hne c main_arg7 (by decide), hne c main_arg9 (by decide), hne c main_arg10 (by decide), hne c main_arg11 (by decide), hne c main_c (by decide), hne c main_call0_v0 (by decide), hne c main_v0 (by decide), hne c main_v1 (by decide), hne c main_c_0 (by decide), hne c main_call1_v0 (by decide), hne c main_v2 (by decide), hne c main_v3 (by decide), hne c main_v4 (by decide)] at hjoin
    iintro ⟨Ha, HO, H12, R0, R1, R2, R3, R4, R5, R6, R7, R8, R9, R10, R11, R12, R13, R14, R15, R16, R17, R18, R19⟩
    imodintro
    isplitr [HO]
    · iapply hjoin
      isplitl [Ha]; · iexact Ha
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      isplitl [R19]; · iexact R19
      iexact H12
    unfold Pipeline.Dat.owesAt Pipeline.owesWithin
    icases HO with ⟨%W, -, HO⟩
    iexists W; iexact HO

end Cert.Proof.KI

end
-- ==== Proof.KI.Run.lean ====
/-
  The program's run: its host operations and its two launches in order, from any memory to the arguments as they were,
  the result at what the second launch leaves, every semaphore at zero.
-/
module

public import proofs.«01_k».proof.Proof.KI.Regions

@[expose] public section

set_option maxRecDepth 65536
set_option maxHeartbeats 400000

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the first launch finds. -/
abbrev In0 : Vals F := fun c b => V5 m c b
/-- What the first launch leaves in its results; elsewhere what it found. -/
def W6 (c : Dev nD) (b : Ref sig .tc) : Buf (Elt F) ((c : Thread nD τ).loc b) :=
  (Function.update (Function.update (Function.update (Function.update (Function.update (V5 m c)
    main_v5_0 ((dat0 (In0 m) c).arrAt 5 cfg0.N)) main_v5_1 ((dat0 (In0 m) c).arrAt 6 cfg0.N))
    main_v5_2 ((dat0 (In0 m) c).arrAt 7 cfg0.N)) main_v5_3 ((dat0 (In0 m) c).arrAt 8 cfg0.N))
    main_v5_4 ((dat0 (In0 m) c).arrAt 9 cfg0.N) : Valuation τ sig (Elt F)) b
/-- The first launch's results, as the chain of valuations takes them. -/
def outs6 : Outs (F := F) := fun _ b c => W6 m c b
/-- What the second launch finds. -/
abbrev In1 : Vals F := fun c b => V7 m (outs6 m) c b
/-- What the program leaves in its result. -/
abbrev result (c : Dev nD) : Buf (Elt F) ((c : Thread nD τ).loc main_v12) := fin1 (In1 m) c
/-- The launches' results: the first's at item 6, the second's at item 8. -/
def outs : Outs (F := F) := fun k b c => if k = 8 then (Function.update (V7 m (outs6 m) c) main_v12 (result m c) : Valuation τ sig (Elt F)) b else W6 m c b

theorem V7_outs (c : Dev nD) : V7 m (outs m) c = V7 m (outs6 m) c := rfl

/-- The arguments. -/
abbrev argRefs : List (Ref sig .tc) :=
  [main_arg0, main_arg1, main_arg2, main_arg3, main_arg4, main_arg5, main_arg6, main_arg7, main_arg8, main_arg9, main_arg10, main_arg11]

/-- No argument is written by anything the program does. -/
theorem args_unwritten : ∀ b ∈ argRefs, (b ∉ hostOps0_W ∧ b ∉ hostOps0_1_W ∧ b ∉ hostOps0_2_W ∧ b ∉ hostOps0_3_W ∧ b ∉ hostOps0_4_W
    ∧ b ∉ ([main_v5_0, main_v5_1, main_v5_2, main_v5_3, main_v5_4] : List (Ref sig .tc)) ∧ b ∉ hostOps1_W ∧ b ∉ ([main_v12] : List (Ref sig .tc)))
    ∧ b.isScoped = false := by decide

/-- At the end every argument holds what the memory held. -/
theorem V8_args (c : Dev nD) (b : Ref sig .tc) (hb : b ∈ argRefs) : V8 m (outs m) c b = m ((c : Thread nD τ).loc b) := by
  obtain ⟨⟨h0, h1, h2, h3, h4, h5, h6, h7⟩, -⟩ := args_unwritten b hb
  exact (V8_of m (outs m) c b h7).trans ((V7_of m (outs m) c b h6).trans ((V6_of m (outs m) c b h5).trans ((V5_of m c b h4).trans
    ((V4_of m c b h3).trans ((V3_of m c b h2).trans ((V2_of m c b h1).trans (V1_of m c b h0)))))))

/-- At the end the result holds what the second launch left. -/
theorem V8_result (c : Dev nD) : V8 m (outs m) c main_v12 = result m c := by
  refine (Function.update_self _ _ _).trans ?_
  unfold outs; rw [if_pos rfl]; exact Function.update_self _ _ _

/-- The five updates read back at their own buffers. -/
theorem five (X : Valuation τ sig (Elt F)) (x0 x1 x2 x3 x4) :
    let Y : Valuation τ sig (Elt F) := Function.update (Function.update (Function.update (Function.update (Function.update X
      main_v5_0 x0) main_v5_1 x1) main_v5_2 x2) main_v5_3 x3) main_v5_4 x4
    Y main_v5_0 = x0 ∧ Y main_v5_1 = x1 ∧ Y main_v5_2 = x2 ∧ Y main_v5_3 = x3 ∧ Y main_v5_4 = x4 := by
  have ne : ∀ a b : Ref sig .tc, a ≠ b → (Proc.devRef (τ := τ) .tc a) ≠ Proc.devRef .tc b := fun _ _ => StableHlo.devRef_ne_of_ne
  refine ⟨?_, ?_, ?_, ?_, Function.update_self _ _ _⟩
  · rw [Function.update_of_ne (ne main_v5_0 main_v5_4 (by decide)), Function.update_of_ne (ne main_v5_0 main_v5_3 (by decide)),
      Function.update_of_ne (ne main_v5_0 main_v5_2 (by decide)), Function.update_of_ne (ne main_v5_0 main_v5_1 (by decide))]
    exact Function.update_self _ _ _
  · rw [Function.update_of_ne (ne main_v5_1 main_v5_4 (by decide)), Function.update_of_ne (ne main_v5_1 main_v5_3 (by decide)),
      Function.update_of_ne (ne main_v5_1 main_v5_2 (by decide))]
    exact Function.update_self _ _ _
  · rw [Function.update_of_ne (ne main_v5_2 main_v5_4 (by decide)), Function.update_of_ne (ne main_v5_2 main_v5_3 (by decide))]
    exact Function.update_self _ _ _
  · rw [Function.update_of_ne (ne main_v5_3 main_v5_4 (by decide))]
    exact Function.update_self _ _ _

/-- After the first launch its results are what the launch is said to leave. -/
theorem V6_outs (c : Dev nD) : V6 m (outs m) c main_v5_0 = W6 m c main_v5_0 ∧ V6 m (outs m) c main_v5_1 = W6 m c main_v5_1
    ∧ V6 m (outs m) c main_v5_2 = W6 m c main_v5_2 ∧ V6 m (outs m) c main_v5_3 = W6 m c main_v5_3 ∧ V6 m (outs m) c main_v5_4 = W6 m c main_v5_4 :=
  five (V5 m c) (W6 m c main_v5_0) (W6 m c main_v5_1) (W6 m c main_v5_2) (W6 m c main_v5_3) (W6 m c main_v5_4)

/-- What the first launch is said to leave in its results is what its proof data compute. -/
theorem W6_eq (c : Dev nD) : W6 m c main_v5_0 = (dat0 (In0 m) c).arrAt 5 cfg0.N ∧ W6 m c main_v5_1 = (dat0 (In0 m) c).arrAt 6 cfg0.N
    ∧ W6 m c main_v5_2 = (dat0 (In0 m) c).arrAt 7 cfg0.N ∧ W6 m c main_v5_3 = (dat0 (In0 m) c).arrAt 8 cfg0.N
    ∧ W6 m c main_v5_4 = (dat0 (In0 m) c).arrAt 9 cfg0.N :=
  five (V5 m c) ((dat0 (In0 m) c).arrAt 5 cfg0.N) ((dat0 (In0 m) c).arrAt 6 cfg0.N) ((dat0 (In0 m) c).arrAt 7 cfg0.N)
    ((dat0 (In0 m) c).arrAt 8 cfg0.N) ((dat0 (In0 m) c).arrAt 9 cfg0.N)

/-- The first launch leaves every other buffer. -/
theorem hne0 : ∀ (c : Dev nD) (b : Ref sig .tc), b ≠ main_v5_0 → b ≠ main_v5_1 → b ≠ main_v5_2 → b ≠ main_v5_3 → b ≠ main_v5_4 →
    V6 m (outs m) c b = V5 m c b := fun c b h0 h1 h2 h3 h4 =>
  V6_of m (outs m) c b (by simp only [List.mem_cons, List.mem_nil_iff, _root_.or_false, not_or]; exact ⟨h0, h1, h2, h3, h4⟩)

/-- The first launch's results, window by window. -/
theorem hout0 : ∀ (c : Dev nD) (w : Fin 10), 5 ≤ w.val → V6 m (outs m) c (Pipeline.arrRef spec0 w) = (dat0 (In0 m) c).arrAt w cfg0.N := by
  intro c w hw
  obtain ⟨a0, a1, a2, a3, a4⟩ := V6_outs m c
  obtain ⟨b0, b1, b2, b3, b4⟩ := W6_eq m c
  obtain rfl | rfl | rfl | rfl | rfl : w = 5 ∨ w = 6 ∨ w = 7 ∨ w = 8 ∨ w = 9 := by revert w; decide
  · exact a0.trans b0
  · exact a1.trans b1
  · exact a2.trans b2
  · exact a3.trans b3
  · exact a4.trans b4

/-- The second launch leaves every other buffer. -/
theorem hne1 : ∀ (c : Dev nD) (b : Ref sig .tc), b ≠ main_v12 → V8 m (outs m) c b = V7 m (outs m) c b := fun c b h =>
  V8_of m (outs m) c b (by simpa only [List.mem_cons, List.mem_nil_iff, _root_.or_false] using h)

/-- The launch's resources: the rounds' tokens beside the counters' first element. -/
def u₀ : UU := (initOf (Pipeline.cells cfgs cellOf_inj) (Pipeline.launchToks cfgs cellOf_inj), 1)

set_option backward.isDefEq.respectTransparency.types false in
/-- The program runs: the result at `result`, every argument as it was, every semaphore at zero. -/
theorem run (ρ : Dev nD → PrngReg) :
    θ_run defs (onTc (τ := τ) (main (F := F))) ⟨m, fun _ => 0, ρ⟩ (fun r => (∀ c : Dev nD,
      r.2.mem ((c.tc : Thread nD τ).loc main_v12) = result m c
      ∧ ∀ b ∈ argRefs, r.2.mem ((c.tc : Thread nD τ).loc b) = m ((c.tc : Thread nD τ).loc b))
      ∧ r.2.sem = fun _ => 0) := by
  let pds := pd (In0 m) (In1 m)
  let R0 := reg0 (In0 m) (In1 m) (fun c b => V6 m (outs m) c b) (hout0 m) (hne0 m)
  let R1 := reg1 (In1 m) (In0 m) (fun c b => V8 m (outs m) c b) (V8_result m) (hne1 m)
  let L : GSem nD τ sig → Finset Unit := fun _ => ∅
  let lv : GSem nD τ sig → Unit → ℕ := fun _ _ => 0
  let E : Fin 3 → Dev nD → sProp 𝕄 := fun _ c => owesNone c
  have held_eq : ∀ (c : Dev nD) (W : Valuation τ sig (Elt F)), (unscopedBufs c (fun b => W b) : sProp 𝕄) = StableHlo.held (c : Thread nD τ) (Pipeline.ucRefs τ sig) W :=
    fun c W => Pipeline.unscopedBufs_held (Ix := Unit) (Name := ℕ) (U := UU) (Lvl := ℕ) c W
  refine Pipeline.θ_run_regions_kit_dev_sems (pcfgs (F := F)) adm pds () cellOf_inj embL defs₀ Variants.none L lv m ρ main
    (segs m (outs m) Variants.none L lv E () pds R0 R1)
    (fun c Q => by
      rewrite [main_chain c, Pipeline.Seg.run_eq_chain,
        show (segs m (outs m) Variants.none L lv E () pds R0 R1 c).map Pipeline.Seg.prog = [
          StableHlo.seq hostOps0, StableHlo.seq hostOps0_1, StableHlo.seq hostOps0_2, StableHlo.seq hostOps0_3, StableHlo.seq hostOps0_4,
          Prog.lift (.customCall (Pipeline.entry 0) ()), StableHlo.seq hostOps1, Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) 0 (fun _ _ => rfl) (fun _ => iprop(emp)) u₀ ?hu
    (T₀ := fun c => iprop(StableHlo.held (c : Thread nD τ) (Pipeline.ucRefs τ sig) (V0 m c) ∗ E 0 c))
    (Tₙ := fun c => StableHlo.held (c : Thread nD τ) (Pipeline.ucRefs τ sig) (V8 m (outs m) c))
    (hch := fun c => ⟨.rfl, .rfl, .rfl, .rfl, .rfl, (sep_mono (Entails.of_eq (held_eq c _).symm) .rfl), (sep_mono (Entails.of_eq (held_eq c _)) .rfl),
      (sep_mono (Entails.of_eq (held_eq c _).symm) .rfl), (sep_mono (Entails.of_eq (held_eq c _)) .rfl)⟩)
    (hinit := ?hinit)
    (QY := fun c s => s.mem ((c.tc : Thread nD τ).loc main_v12) = result m c
      ∧ ∀ b ∈ argRefs, s.mem ((c.tc : Thread nD τ).loc b) = m ((c.tc : Thread nD τ).loc b))
    (hfin := fun c s' => ?hfin) (hQ := fun _ h hz => ⟨h, funext fun g => hz g (.inr (regions_no_unscoped g.2))⟩)
  case hu =>
    unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hinit =>
    have hE0 : iprop((bigSep Finset.univ fun c : Dev nD => iprop(unscopedSems0 c ∗ owes (c : Thread nD τ) ((0 : Dev nD → CellTallies nD τ sig Unit) c) ∅ ∗ Pipeline.launchCred 0 c ∗ prngReg c (ρ c) ∗ emp)) ∗ levAts L lv)
        ⊢ (|={Set.univ}=> bigSep Finset.univ (E 0) : sProp 𝕄) :=
      Pipeline.initEach L lv fun c => by
        iintro ⟨⟨-, HO, -, -, -⟩, -⟩
        imodintro; iexists ∅; iexact HO
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred 0 c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred 0 c ∗ prngReg c (ρ c) ∗ emp))
            : sProp 𝕄) := by
      rw [← bigSep_sep']
      exact bigSep_mono fun c _ => by rw [← held_eq c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  case hfin =>
    unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      exact ⟨(h (Proc.devRef .tc main_v12) (Finset.mem_filter.mpr ⟨StableHlo.devRef_mem_tcRefs main_v12, by decide⟩)).trans (V8_result m c),
        fun b hb => (h (Proc.devRef .tc b) (Finset.mem_filter.mpr ⟨StableHlo.devRef_mem_tcRefs b, by
          have := (args_unwritten b hb).2; exact fun h' => Bool.false_ne_true (this.symm.trans h')⟩)).trans (V8_args m c b hb)⟩
    · iexact HSI

end Cert.Proof.KI

end
-- ==== Proof.V.Norm.lean ====
/-
  Batch normalisation over the reals, in the two ways the programs compute it: from the column's sum and sum of
  squares, and from the mean and the mean square deviation.
-/
module

public import Idealize.ShloMosaic.PureOps.Ideal
public import Idealize.ShloMosaic.Lib.Pointwise

@[expose] public section

noncomputable section

namespace Cert.Proof.V

open Idealize.ShloMosaic

/-- A finite sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The constant added to the variance. -/
def eps : ℝ := 10995116 / 2 ^ 40

theorem eps_pos : 0 < eps := by unfold eps; positivity

theorem ofBits_eps : Ideal.ofBits .f32 0x3727C5AC#32 = ((eps : ℝ) : EReal) := by
  simp [Ideal.ofBits, Ideal.ieee, eps, -EReal.coe_mul]; norm_num

theorem ofBits_inv : Ideal.ofBits .f32 0x38800000#32 = ((1 / 16384 : ℝ) : EReal) := by
  simp [Ideal.ofBits, Ideal.ieee, -EReal.coe_mul]; norm_num

theorem ofBits_count : Ideal.ofBits .f32 0x46800000#32 = ((16384 : ℝ) : EReal) := by
  simp [Ideal.ofBits, Ideal.ieee, -EReal.coe_mul]; norm_num

theorem ofBits_zero : Ideal.ofBits .f32 0x00000000#32 = 0 := by
  simp [Ideal.ofBits, Ideal.ieee]

/-- A column's mean. -/
def mean (h : Fin 16384 → ℝ) : ℝ := (∑ r, h r) * (1 / 16384)

/-- A column's variance. -/
def var (h : Fin 16384 → ℝ) : ℝ := (∑ r, (h r - mean h) * (h r - mean h)) * (1 / 16384)

/-- A column scaled to its statistics. -/
def bn (g : ℝ) (h : Fin 16384 → ℝ) (r : Fin 16384) : ℝ := g * (h r - mean h) * (1 / √(var h + eps))

theorem var_nonneg (h : Fin 16384 → ℝ) : 0 ≤ var h :=
  mul_nonneg (Finset.sum_nonneg fun r _ => mul_self_nonneg _) (by norm_num)

theorem var_eps_pos (h : Fin 16384 → ℝ) : 0 < var h + eps := add_pos_of_nonneg_of_pos (var_nonneg h) eps_pos

/-- The variance from the sum of squares. -/
theorem var_eq (h : Fin 16384 → ℝ) : (∑ r, h r * h r) * (1 / 16384) - mean h * mean h = var h := by
  unfold var
  have e : ∀ r, (h r - mean h) * (h r - mean h) = h r * h r - 2 * mean h * h r + mean h * mean h := fun r => by ring
  simp only [e]
  rw [Finset.sum_add_distrib, Finset.sum_sub_distrib, ← Finset.mul_sum, Finset.sum_const, Finset.card_univ, Fintype.card_fin]
  have hm : ∑ r, h r = 16384 * mean h := by unfold mean; ring
  rw [hm]; simp only [nsmul_eq_mul]; push_cast; ring

/-- The scale the kernel computes from a column's sum and sum of squares. -/
theorem scale_eq (h : Fin 16384 → ℝ) (g : ℝ) :
    (g : EReal) * Ideal.rsqrt (((∑ r, h r * h r : ℝ) : EReal) * ((1 / 16384 : ℝ) : EReal) - ((mean h : ℝ) : EReal) * ((mean h : ℝ) : EReal) + ((eps : ℝ) : EReal))
      = ((g * (1 / √(var h + eps)) : ℝ) : EReal) := by
  rw [← EReal.coe_mul, ← EReal.coe_mul, ← EReal.coe_sub, ← EReal.coe_add, var_eq, Ideal.rsqrt_coe,
    if_neg (not_lt.mpr (var_eps_pos h).le), if_neg (var_eps_pos h).ne', ← EReal.coe_mul, one_div]

theorem mean_eq (h : Fin 16384 → ℝ) : ((∑ r, h r : ℝ) : EReal) * ((1 / 16384 : ℝ) : EReal) = ((mean h : ℝ) : EReal) := by
  rw [← EReal.coe_mul]; rfl

theorem scale_eq' (h : Fin 16384 → ℝ) (g : ℝ) :
    (g : EReal) * Ideal.rsqrt (((mean (fun r => h r * h r) : ℝ) : EReal) - ((mean h : ℝ) : EReal) * ((mean h : ℝ) : EReal) + ((eps : ℝ) : EReal))
      = ((g * (1 / √(var h + eps)) : ℝ) : EReal) := by
  rw [← mean_eq (fun r => h r * h r), scale_eq]

/-- The kernel's scaled and shifted element. -/
theorem kernel_bn (h : Fin 16384 → ℝ) (g : ℝ) (be : EReal) (r : Fin 16384) :
    (h r : EReal) * ((g * (1 / √(var h + eps)) : ℝ) : EReal) + (be - ((mean h : ℝ) : EReal) * ((g * (1 / √(var h + eps)) : ℝ) : EReal))
      = ((bn g h r : ℝ) : EReal) + be := by
  rw [← EReal.coe_mul, ← EReal.coe_mul, sub_eq_add_neg, ← EReal.coe_neg, add_comm be, ← add_assoc, ← EReal.coe_add]
  congr 2
  unfold bn; ring

/-- The reference's. -/
theorem ref_bn (h : Fin 16384 → ℝ) (g : ℝ) (r : Fin 16384) :
    Ideal.div ((g : EReal) * ((h r : EReal) - ((mean h : ℝ) : EReal))) (Ideal.sqrt (((var h : ℝ) : EReal) + ((eps : ℝ) : EReal)))
      = ((bn g h r : ℝ) : EReal) := by
  rw [← EReal.coe_add, Ideal.sqrt_coe, if_neg (not_lt.mpr (var_eps_pos h).le), Ideal.div_coe (Real.sqrt_pos.mpr (var_eps_pos h)).ne',
    ← EReal.coe_sub, ← EReal.coe_mul, ← EReal.coe_mul]
  rfl

theorem div_count (x : EReal) : Ideal.div x ((16384 : ℝ) : EReal) = x * ((1 / 16384 : ℝ) : EReal) := Ideal.div_coe (by norm_num) x

theorem relu_coe (x : ℝ) : max (x : EReal) 0 = ((max x 0 : ℝ) : EReal) := by
  rw [← EReal.coe_zero]; exact (EReal.coe_strictMono.monotone.map_max).symm

/-! A column that is shifted: by a number, which the normalisation does not see, or by an infinity. -/

theorem mean_shift (h : Fin 16384 → ℝ) (b : ℝ) : mean (fun r => h r + b) = mean h + b := by
  unfold mean
  rw [Finset.sum_add_distrib, Finset.sum_const, Finset.card_univ, Fintype.card_fin, nsmul_eq_mul]
  push_cast; ring

theorem var_shift (h : Fin 16384 → ℝ) (b : ℝ) : var (fun r => h r + b) = var h := by
  unfold var
  simp only [mean_shift, add_sub_add_right_eq_sub]

theorem bn_shift (g : ℝ) (h : Fin 16384 → ℝ) (b : ℝ) (r : Fin 16384) : bn g (fun r => h r + b) r = bn g h r := by
  unfold bn
  simp only [mean_shift, var_shift, add_sub_add_right_eq_sub]

theorem sum_top : ∑ _r : Fin 16384, (⊤ : EReal) = ⊤ := by
  rw [Finset.sum_const, Finset.card_univ, Fintype.card_fin, EReal.nsmul_eq_mul]
  exact EReal.mul_top_of_pos (by norm_num)

theorem sum_bot : ∑ _r : Fin 16384, (⊥ : EReal) = ⊥ := by
  rw [Finset.sum_const, Finset.card_univ, Fintype.card_fin, EReal.nsmul_eq_mul]
  exact EReal.mul_bot_of_pos (by norm_num)

/-- An infinite shift. -/
def Inf (β : EReal) : Prop := β = ⊤ ∨ β = ⊥

open Classical in
/-- What the kernel's normalisation and rectifier make of a column `h` shifted by `β`. -/
def actK (g be : ℝ) (h : Fin 16384 → ℝ) (β : EReal) (r : Fin 16384) : ℝ :=
  if Inf β then (if g = 0 then max be 0 else 0) else max (bn g h r + be) 0

open Classical in
/-- What the reference's make of it. -/
def actR (g be : ℝ) (h : Fin 16384 → ℝ) (β : EReal) (r : Fin 16384) : ℝ :=
  if Inf β then max be 0 else max (bn g h r + be) 0

/-- The two differ by a number that is the same in every row. -/
theorem act_shift (g be : ℝ) (h : Fin 16384 → ℝ) (β : EReal) : ∃ d : ℝ, ∀ r, actK g be h β r = actR g be h β r + d := by
  by_cases hb : Inf β
  · refine ⟨(if g = 0 then max be 0 else 0) - max be 0, fun r => ?_⟩
    unfold actK actR
    rw [if_pos hb, if_pos hb]; ring
  · refine ⟨0, fun r => ?_⟩
    unfold actK actR
    rw [if_neg hb, if_neg hb]; ring

/-- The scaled and shifted element where the variance is the bottom. -/
theorem flatK (g be : ℝ) (a : EReal) (ha : a = ⊤ ∨ a = ⊥) :
    max (a * ((g : EReal) * ⊥) + ((be : EReal) - a * ((g : EReal) * ⊥))) 0 = ((if g = 0 then max be 0 else 0 : ℝ) : EReal) := by
  rcases lt_trichotomy g 0 with hg | hg | hg
  · rw [if_neg hg.ne, EReal.coe_mul_bot_of_neg hg]
    rcases ha with rfl | rfl <;> simp
  · subst hg
    rw [if_pos rfl, EReal.coe_zero, zero_mul, mul_zero, zero_add, sub_zero, relu_coe]
  · rw [if_neg hg.ne', EReal.coe_mul_bot_of_pos hg]
    rcases ha with rfl | rfl <;> simp

/-- The kernel's column where it is real. -/
theorem colK_real (h : Fin 16384 → ℝ) (g be : ℝ) (r : Fin 16384) :
    max ((h r : EReal) * ((g : EReal) * Ideal.rsqrt ((∑ r, (h r : EReal) * (h r : EReal)) * ((1 / 16384 : ℝ) : EReal)
        - (∑ r, (h r : EReal)) * ((1 / 16384 : ℝ) : EReal) * ((∑ r, (h r : EReal)) * ((1 / 16384 : ℝ) : EReal)) + ((eps : ℝ) : EReal)))
      + ((be : EReal) - (∑ r, (h r : EReal)) * ((1 / 16384 : ℝ) : EReal) * ((g : EReal) * Ideal.rsqrt ((∑ r, (h r : EReal) * (h r : EReal)) * ((1 / 16384 : ℝ) : EReal)
        - (∑ r, (h r : EReal)) * ((1 / 16384 : ℝ) : EReal) * ((∑ r, (h r : EReal)) * ((1 / 16384 : ℝ) : EReal)) + ((eps : ℝ) : EReal))))) 0
      = ((max (bn g h r + be) 0 : ℝ) : EReal) := by
  have e : ∑ r, (h r : EReal) * (h r : EReal) = ((∑ r, h r * h r : ℝ) : EReal) := by
    rw [coe_sum]
    simp only [EReal.coe_mul]
  rw [e, ← coe_sum, mean_eq h, scale_eq, kernel_bn, ← EReal.coe_add, relu_coe]

/-- The reference's. -/
theorem colR_real (h : Fin 16384 → ℝ) (g be : ℝ) (r : Fin 16384) :
    max (Ideal.div ((g : EReal) * ((h r : EReal) - (∑ r, (h r : EReal)) * ((1 / 16384 : ℝ) : EReal)))
        (Ideal.sqrt ((∑ r, ((h r : EReal) - (∑ r, (h r : EReal)) * ((1 / 16384 : ℝ) : EReal)) * ((h r : EReal) - (∑ r, (h r : EReal)) * ((1 / 16384 : ℝ) : EReal)))
          * ((1 / 16384 : ℝ) : EReal) + ((eps : ℝ) : EReal))) + (be : EReal)) 0
      = ((max (bn g h r + be) 0 : ℝ) : EReal) := by
  have e : (∑ r, ((h r : EReal) - ((mean h : ℝ) : EReal)) * ((h r : EReal) - ((mean h : ℝ) : EReal))) * ((1 / 16384 : ℝ) : EReal) = ((var h : ℝ) : EReal) := by
    unfold var
    rw [EReal.coe_mul, coe_sum]
    simp only [EReal.coe_mul, EReal.coe_sub]
  rw [← coe_sum, mean_eq, e, ref_bn, ← EReal.coe_add, relu_coe]

/-- The kernel's column, shifted by any number or infinity. -/
theorem colK (g be : ℝ) (h : Fin 16384 → ℝ) (β : EReal) (r : Fin 16384) :
    max (((h r : EReal) + β) * ((g : EReal) * Ideal.rsqrt ((∑ r, ((h r : EReal) + β) * ((h r : EReal) + β)) * ((1 / 16384 : ℝ) : EReal)
        - (∑ r, ((h r : EReal) + β)) * ((1 / 16384 : ℝ) : EReal) * ((∑ r, ((h r : EReal) + β)) * ((1 / 16384 : ℝ) : EReal)) + ((eps : ℝ) : EReal)))
      + ((be : EReal) - (∑ r, ((h r : EReal) + β)) * ((1 / 16384 : ℝ) : EReal) * ((g : EReal) * Ideal.rsqrt ((∑ r, ((h r : EReal) + β) * ((h r : EReal) + β)) * ((1 / 16384 : ℝ) : EReal)
        - (∑ r, ((h r : EReal) + β)) * ((1 / 16384 : ℝ) : EReal) * ((∑ r, ((h r : EReal) + β)) * ((1 / 16384 : ℝ) : EReal)) + ((eps : ℝ) : EReal))))) 0
      = ((actK g be h β r : ℝ) : EReal) := by
  have hi : (0 : ℝ) < 1 / 16384 := by norm_num
  induction β using EReal.rec with
  | bot =>
    unfold actK
    rw [if_pos (show Inf ⊥ from Or.inr rfl)]
    simp only [EReal.add_bot, EReal.bot_mul_bot, sum_top, sum_bot, EReal.top_mul_coe_of_pos hi, EReal.bot_mul_coe_of_pos hi]
    exact flatK g be ⊥ (Or.inr rfl)
  | top =>
    unfold actK
    rw [if_pos (show Inf ⊤ from Or.inl rfl)]
    simp only [EReal.coe_add_top, EReal.top_mul_top, sum_top, EReal.top_mul_coe_of_pos hi]
    exact flatK g be ⊤ (Or.inl rfl)
  | coe b =>
    unfold actK
    rw [if_neg (by simp [Inf])]
    simp only [← EReal.coe_add]
    rw [colK_real (fun r => h r + b), bn_shift]

/-- The reference's. -/
theorem colR (g be : ℝ) (h : Fin 16384 → ℝ) (β : EReal) (r : Fin 16384) :
    max (Ideal.div ((g : EReal) * (((h r : EReal) + β) - (∑ r, ((h r : EReal) + β)) * ((1 / 16384 : ℝ) : EReal)))
        (Ideal.sqrt ((∑ r, (((h r : EReal) + β) - (∑ r, ((h r : EReal) + β)) * ((1 / 16384 : ℝ) : EReal)) * (((h r : EReal) + β) - (∑ r, ((h r : EReal) + β)) * ((1 / 16384 : ℝ) : EReal)))
          * ((1 / 16384 : ℝ) : EReal) + ((eps : ℝ) : EReal))) + (be : EReal)) 0
      = ((actR g be h β r : ℝ) : EReal) := by
  have hi : (0 : ℝ) < 1 / 16384 := by norm_num
  have ht : Ideal.sqrt ⊤ = ⊤ := rfl
  have hd : ∀ x : EReal, Ideal.div x ⊤ = 0 := fun x => by
    unfold Ideal.div
    rw [if_neg (by simp), EReal.inv_top, mul_zero]
  induction β using EReal.rec with
  | bot =>
    unfold actR
    rw [if_pos (show Inf ⊥ from Or.inr rfl)]
    simp only [EReal.add_bot, sum_bot, EReal.bot_mul_coe_of_pos hi, EReal.bot_sub, EReal.bot_mul_bot, sum_top, EReal.top_mul_coe_of_pos hi, EReal.top_add_coe, ht, hd, zero_add, relu_coe]
  | top =>
    unfold actR
    rw [if_pos (show Inf ⊤ from Or.inl rfl)]
    have hs : (⊤ : EReal) - ⊤ = ⊥ := rfl
    simp only [EReal.coe_add_top, sum_top, EReal.top_mul_coe_of_pos hi, hs, EReal.bot_mul_bot, EReal.top_add_coe, ht, hd, zero_add, relu_coe]
  | coe b =>
    unfold actR
    rw [if_neg (by simp [Inf])]
    have e := colR_real (fun r => h r + b) g be r
    rw [bn_shift] at e
    rw [← e]
    simp only [EReal.coe_add]

open Classical in
/-- The kernel's column with any shift after the scale but the top: under the bottom nothing is left. -/
def rectK (g : ℝ) (be : EReal) (h : Fin 16384 → ℝ) (β : EReal) (r : Fin 16384) : ℝ :=
  if be = ⊥ then 0 else actK g be.toReal h β r

open Classical in
/-- The reference's. -/
def rectR (g : ℝ) (be : EReal) (h : Fin 16384 → ℝ) (β : EReal) (r : Fin 16384) : ℝ :=
  if be = ⊥ then 0 else actR g be.toReal h β r

theorem rect_shift (g : ℝ) (be : EReal) (h : Fin 16384 → ℝ) (β : EReal) : ∃ d : ℝ, ∀ r, rectK g be h β r = rectR g be h β r + d := by
  by_cases hb : be = ⊥
  · refine ⟨0, fun r => ?_⟩
    unfold rectK rectR
    rw [if_pos hb, if_pos hb, add_zero]
  · obtain ⟨d, hd⟩ := act_shift g be.toReal h β
    refine ⟨d, fun r => ?_⟩
    unfold rectK rectR
    rw [if_neg hb, if_neg hb, hd]

theorem rectK_val (g : ℝ) (be : EReal) (hbe : be ≠ ⊤) (h : Fin 16384 → ℝ) (β : EReal) (r : Fin 16384) :
    max (((h r : EReal) + β) * ((g : EReal) * Ideal.rsqrt ((∑ r, ((h r : EReal) + β) * ((h r : EReal) + β)) * ((1 / 16384 : ℝ) : EReal)
        - (∑ r, ((h r : EReal) + β)) * ((1 / 16384 : ℝ) : EReal) * ((∑ r, ((h r : EReal) + β)) * ((1 / 16384 : ℝ) : EReal)) + ((eps : ℝ) : EReal)))
      + (be - (∑ r, ((h r : EReal) + β)) * ((1 / 16384 : ℝ) : EReal) * ((g : EReal) * Ideal.rsqrt ((∑ r, ((h r : EReal) + β) * ((h r : EReal) + β)) * ((1 / 16384 : ℝ) : EReal)
        - (∑ r, ((h r : EReal) + β)) * ((1 / 16384 : ℝ) : EReal) * ((∑ r, ((h r : EReal) + β)) * ((1 / 16384 : ℝ) : EReal)) + ((eps : ℝ) : EReal))))) 0
      = ((rectK g be h β r : ℝ) : EReal) := by
  induction be using EReal.rec with
  | bot =>
    unfold rectK
    rw [if_pos rfl]
    simp only [EReal.bot_sub, EReal.add_bot, bot_le, max_eq_right, EReal.coe_zero]
  | coe b =>
    unfold rectK
    rw [if_neg (EReal.coe_ne_bot b), EReal.toReal_coe]
    exact colK g b h β r
  | top => exact absurd rfl hbe

theorem rectR_val (g : ℝ) (be : EReal) (hbe : be ≠ ⊤) (h : Fin 16384 → ℝ) (β : EReal) (r : Fin 16384) :
    max (Ideal.div ((g : EReal) * (((h r : EReal) + β) - (∑ r, ((h r : EReal) + β)) * ((1 / 16384 : ℝ) : EReal)))
        (Ideal.sqrt ((∑ r, (((h r : EReal) + β) - (∑ r, ((h r : EReal) + β)) * ((1 / 16384 : ℝ) : EReal)) * (((h r : EReal) + β) - (∑ r, ((h r : EReal) + β)) * ((1 / 16384 : ℝ) : EReal)))
          * ((1 / 16384 : ℝ) : EReal) + ((eps : ℝ) : EReal))) + be) 0
      = ((rectR g be h β r : ℝ) : EReal) := by
  induction be using EReal.rec with
  | bot =>
    unfold rectR
    rw [if_pos rfl]
    simp only [EReal.add_bot, bot_le, max_eq_right, EReal.coe_zero]
  | coe b =>
    unfold rectR
    rw [if_neg (EReal.coe_ne_bot b), EReal.toReal_coe]
    exact colR g b h β r
  | top => exact absurd rfl hbe

/-- A shifted number against a number. -/
theorem shift_mul (a w : ℝ) (β : EReal) : ((a : EReal) + β) * (w : EReal) = ((a * w : ℝ) : EReal) + β * (w : EReal) := by
  induction β using EReal.rec with
  | coe b => rw [← EReal.coe_add, ← EReal.coe_mul, ← EReal.coe_mul, ← EReal.coe_add, add_mul]
  | bot =>
    rw [EReal.add_bot]
    rcases lt_trichotomy w 0 with hw | hw | hw
    · rw [EReal.bot_mul_coe_of_neg hw, EReal.coe_add_top]
    · subst hw; simp
    · rw [EReal.bot_mul_coe_of_pos hw, EReal.add_bot]
  | top =>
    rw [EReal.coe_add_top]
    rcases lt_trichotomy w 0 with hw | hw | hw
    · rw [EReal.top_mul_coe_of_neg hw, EReal.add_bot]
    · subst hw; simp
    · rw [EReal.top_mul_coe_of_pos hw, EReal.coe_add_top]

/-- Blocks of rows summed one after another. -/
theorem sum_blocks {α : Type*} [AddCommMonoid α] (m : ℕ) (f : ℕ → α) : ∀ n, ∑ k ∈ Finset.range n, ∑ r : Fin m, f (m * k + r.val) = ∑ i ∈ Finset.range (m * n), f i
  | 0 => by simp
  | n + 1 => by
    rw [Finset.sum_range_succ, sum_blocks m f n, Nat.mul_succ, Finset.sum_range_add, Fin.sum_univ_eq_sum_range (fun i => f (m * n + i)) m]

/-- The eight blocks of 2048 rows together. -/
theorem sum_rows {α : Type*} [AddCommMonoid α] (f : ℕ → α) : ∑ k ∈ Finset.range 8, ∑ r : Fin 2048, f (2048 * k + r.val) = ∑ r : Fin 16384, f r.val := by
  rw [sum_blocks, Fin.sum_univ_eq_sum_range f 16384]

end Cert.Proof.V

end
-- ==== Proof.V.Fused.lean ====
/-
  The fused kernel's result at an index, given the first layer's blocks as real numbers shifted by any bias.
-/
module

public import proofs.«01_k».proof.Proof.KI.FusedValue
public import proofs.«01_k».proof.Proof.V.Norm

@[expose] public section

set_option maxRecDepth 16384
set_option maxHeartbeats 400000

noncomputable section

namespace Cert.Proof.V

open Cert.KernelIdeal Cert.KernelIdeal.Gen
open Idealize.ShloMosaic
open Idealize.ShloMosaic.TcCoe
open Cert.Proof.KI

/-- The second layer's row `R` from the first layer's activations `A`. -/
def layer2 (A : Fin 512 → Fin 16384 → ℝ) (W2 : Fin 256 → Fin 512 → ℝ) (B2 : Fin 256 → ℝ) (R : Fin 16384) (n : Fin 256) : ℝ :=
  (∑ x : Fin 512, A x R * W2 n x) + B2 n

/-- The kernel's activations of the rows `H` shifted by `β`. -/
def actsK (H : ℕ → Fin 512 → ℝ) (β : Fin 512 → EReal) (G1 : Fin 512 → ℝ) (BE1 : Fin 512 → EReal) (x : Fin 512) (R : Fin 16384) : ℝ :=
  rectK (G1 x) (BE1 x) (fun r => H r.val x) (β x) R

/-- The reference's. -/
def actsR (H : ℕ → Fin 512 → ℝ) (β : Fin 512 → EReal) (G1 : Fin 512 → ℝ) (BE1 : Fin 512 → EReal) (x : Fin 512) (R : Fin 16384) : ℝ :=
  rectR (G1 x) (BE1 x) (fun r => H r.val x) (β x) R

/-- The two make second layers that differ by a number for each column. -/
theorem layer2_shift (H : ℕ → Fin 512 → ℝ) (β : Fin 512 → EReal) (G1 : Fin 512 → ℝ) (BE1 : Fin 512 → EReal) (W2 : Fin 256 → Fin 512 → ℝ) (B2 : Fin 256 → ℝ) (n : Fin 256) :
    ∃ d : ℝ, ∀ R, layer2 (actsK H β G1 BE1) W2 B2 R n = layer2 (actsR H β G1 BE1) W2 B2 R n + d := by
  choose d hd using fun x : Fin 512 => rect_shift (G1 x) (BE1 x) (fun r => H r.val x) (β x)
  refine ⟨∑ x, d x * W2 n x, fun R => ?_⟩
  unfold layer2 actsK actsR
  simp only [hd, add_mul, Finset.sum_add_distrib]
  ring

/-- The result's entry from the second layer. -/
def outE (H2 : Fin 16384 → Fin 256 → ℝ) (G2 : Fin 256 → ℝ) (BE2 : Fin 256 → EReal) (R : Fin 16384) (n : Fin 256) : EReal :=
  max (((bn (G2 n) (fun r => H2 r n) R : ℝ) : EReal) + BE2 n) 0

/-- Second layers that differ by a number for each column have the same result. -/
theorem outE_shift (H2 H2' : Fin 16384 → Fin 256 → ℝ) (G2 : Fin 256 → ℝ) (BE2 : Fin 256 → EReal) (n : Fin 256) (d : ℝ)
    (h : ∀ R, H2 R n = H2' R n + d) (R : Fin 16384) : outE H2 G2 BE2 R n = outE H2' G2 BE2 R n := by
  unfold outE
  simp only [h]
  rw [bn_shift]

section

variable (c : Dev nD) (X0 : Bf (F := Ideal) c a0) (X1 : Bf (F := Ideal) c a1) (X2 : Bf (F := Ideal) c a2) (X3 : Bf (F := Ideal) c a3) (X4 : Bf (F := Ideal) c a4) (X5 : Bf (F := Ideal) c a5) (X6 : Bf (F := Ideal) c a6) (X7 : Bf (F := Ideal) c a7) (X8 : Bf (F := Ideal) c a8) (X9 : Bf (F := Ideal) c a9) (X10 : Bf (F := Ideal) c a10) (X11 : Bf (F := Ideal) c a11)
variable (H : ℕ → Fin 512 → ℝ) (β : Fin 512 → EReal) (G1 : Fin 512 → ℝ) (BE1 : Fin 512 → EReal) (W2 : Fin 256 → Fin 512 → ℝ) (B2 G2 : Fin 256 → ℝ) (BE2 : Fin 256 → EReal)

/-- The first layer's blocks are the rows of `H`, each column shifted by `β`. -/
def Rows1 : Prop := ∀ k < 8, ∀ (r : Fin 2048) (n : Fin 512), h1b c X0 X1 X2 X3 X4 X5 k (ix2 r n) = ((H (2048 * k + r.val) n : ℝ) : EReal) + β n

variable {c X0 X1 X2 X3 X4 X5 H β}

theorem sum1_apply (hH : Rows1 c X0 X1 X2 X3 X4 X5 H β) (n : Fin 512) : ∀ k ≤ 8,
    (sum1 c X0 X1 X2 X3 X4 X5 k).1 (ix2 0 n) = ∑ j ∈ Finset.range k, ∑ r : Fin 2048, (((H (2048 * j + r.val) n : ℝ) : EReal) + β n)
    ∧ (sum1 c X0 X1 X2 X3 X4 X5 k).2 (ix2 0 n) = ∑ j ∈ Finset.range k, ∑ r : Fin 2048, (((H (2048 * j + r.val) n : ℝ) : EReal) + β n) * (((H (2048 * j + r.val) n : ℝ) : EReal) + β n)
  | 0, _ => by
    constructor
    · pointwise [sum1, k1_pay5]; simp
    · pointwise [sum1, k1_pay6]; simp
  | k + 1, hk => by
    obtain ⟨e1, e2⟩ := sum1_apply hH n k (by omega)
    have e : ∀ r : Fin 2048, k1_pay1 (xblk c X0 k) (rd4 c X4) (rd5 c X5) (rd1 c X1) (rd2 c X2) (rd3 c X3) (ix2 r n) = ((H (2048 * k + r.val) n : ℝ) : EReal) + β n := fun r => by
      have := hH k (by omega) r n
      unfold h1b k1_pay2 at this
      rw [← this]
      pointwise
    unfold sum1
    dsimp only
    constructor
    · pointwise [k1_pay3]
      rw [e1, Finset.sum_range_succ]
      simp only [e]
    · pointwise [k1_pay7, k1_pay4]
      rw [e2, Finset.sum_range_succ]
      simp only [e]

theorem sums1 (hH : Rows1 c X0 X1 X2 X3 X4 X5 H β) (n : Fin 512) :
    (sum1 c X0 X1 X2 X3 X4 X5 8).1 (ix2 0 n) = ∑ r : Fin 16384, (((H r.val n : ℝ) : EReal) + β n)
    ∧ (sum1 c X0 X1 X2 X3 X4 X5 8).2 (ix2 0 n) = ∑ r : Fin 16384, (((H r.val n : ℝ) : EReal) + β n) * (((H r.val n : ℝ) : EReal) + β n) := by
  obtain ⟨e1, e2⟩ := sum1_apply hH n 8 le_rfl
  rw [e1, e2, sum_rows (fun i => ((H i n : ℝ) : EReal) + β n), sum_rows (fun i => (((H i n : ℝ) : EReal) + β n) * (((H i n : ℝ) : EReal) + β n))]
  exact ⟨rfl, rfl⟩

/-- The other operands of the second half: real numbers, but for the two shifts after the scales. -/
structure Ops2 (c : Dev nD) (X6 : Bf (F := Ideal) c a6) (X7 : Bf (F := Ideal) c a7) (X8 : Bf (F := Ideal) c a8) (X9 : Bf (F := Ideal) c a9) (X10 : Bf (F := Ideal) c a10) (X11 : Bf (F := Ideal) c a11)
    (G1 : Fin 512 → ℝ) (BE1 : Fin 512 → EReal) (W2 : Fin 256 → Fin 512 → ℝ) (B2 G2 : Fin 256 → ℝ) (BE2 : Fin 256 → EReal) : Prop where
  g1 : ∀ n, rd6 c X6 (ix2 0 n) = ((G1 n : ℝ) : EReal)
  be1 : ∀ n, rd7 c X7 (ix2 0 n) = BE1 n
  be1_top : ∀ n, BE1 n ≠ ⊤
  w2 : ∀ n x, rd8 c X8 (ix2 n x) = ((W2 n x : ℝ) : EReal)
  b2 : ∀ n, rd9 c X9 (ix2 0 n) = ((B2 n : ℝ) : EReal)
  g2 : ∀ n, rd10 c X10 (ix2 0 n) = ((G2 n : ℝ) : EReal)
  be2 : ∀ n, rd11 c X11 (ix2 0 n) = BE2 n

variable {X6 X7 X8 X9 X10 X11 G1 BE1 W2 B2 G2 BE2}

theorem pay10_apply (hH : Rows1 c X0 X1 X2 X3 X4 X5 H β) (hO : Ops2 c X6 X7 X8 X9 X10 X11 G1 BE1 W2 B2 G2 BE2) (k : Fin 8) (r : Fin 2048) (n : Fin 256) :
    k1_pay10 (sum1 c X0 X1 X2 X3 X4 X5 8).1 (sum1 c X0 X1 X2 X3 X4 X5 8).2 (rd6 c X6) (rd7 c X7) (h1b c X0 X1 X2 X3 X4 X5 k.val) (rd8 c X8) (rd9 c X9) (ix2 r n)
      = ((layer2 (actsK H β G1 BE1) W2 B2 ⟨2048 * k.val + r.val, by omega⟩ n : ℝ) : EReal) := by
  pointwise [k1_pay10]
  simp only [ofBits_inv, ofBits_eps, (sums1 hH _).1, (sums1 hH _).2, hO.g1, hO.be1, hO.w2, hO.b2, hH k.val k.isLt]
  have e := fun x : Fin 512 => rectK_val (G1 x) (BE1 x) (hO.be1_top x) (fun r : Fin 16384 => H r.val x) (β x) ⟨2048 * k.val + r.val, by omega⟩
  dsimp only at e
  simp only [e, ← EReal.coe_mul]
  rw [← coe_sum, ← EReal.coe_add]
  rfl

/-- Row `i` of the second layer, at any natural number. -/
def rows2 (A : Fin 512 → Fin 16384 → ℝ) (W2 : Fin 256 → Fin 512 → ℝ) (B2 : Fin 256 → ℝ) (i : ℕ) (n : Fin 256) : ℝ :=
  if h : i < 16384 then layer2 A W2 B2 ⟨i, h⟩ n else 0

theorem rows2_fin (R : Fin 16384) (n : Fin 256) : rows2 (actsK H β G1 BE1) W2 B2 R.val n = layer2 (actsK H β G1 BE1) W2 B2 R n := dif_pos R.isLt

theorem sum2_apply (hH : Rows1 c X0 X1 X2 X3 X4 X5 H β) (hO : Ops2 c X6 X7 X8 X9 X10 X11 G1 BE1 W2 B2 G2 BE2) (n : Fin 256) : ∀ k ≤ 8,
    (sum2 c X0 X1 X2 X3 X4 X5 X6 X7 X8 X9 k).1 (ix2 0 n) = ((∑ j ∈ Finset.range k, ∑ r : Fin 2048, rows2 (actsK H β G1 BE1) W2 B2 (2048 * j + r.val) n : ℝ) : EReal)
    ∧ (sum2 c X0 X1 X2 X3 X4 X5 X6 X7 X8 X9 k).2 (ix2 0 n) = ((∑ j ∈ Finset.range k, ∑ r : Fin 2048, rows2 (actsK H β G1 BE1) W2 B2 (2048 * j + r.val) n * rows2 (actsK H β G1 BE1) W2 B2 (2048 * j + r.val) n : ℝ) : EReal)
  | 0, _ => by
    constructor
    · pointwise [sum2, k1_pay8]; simp
    · pointwise [sum2, k1_pay9]; simp
  | k + 1, hk => by
    obtain ⟨e1, e2⟩ := sum2_apply hH hO n k (by omega)
    have e : ∀ r : Fin 2048, k1_pay10 (sum1 c X0 X1 X2 X3 X4 X5 8).1 (sum1 c X0 X1 X2 X3 X4 X5 8).2 (rd6 c X6) (rd7 c X7) (h1b c X0 X1 X2 X3 X4 X5 k) (rd8 c X8) (rd9 c X9) (ix2 r n)
        = ((rows2 (actsK H β G1 BE1) W2 B2 (2048 * k + r.val) n : ℝ) : EReal) := fun r => by
      have h := pay10_apply hH hO ⟨k, by omega⟩ r n
      rw [← rows2_fin] at h
      exact h
    unfold sum2
    dsimp only
    constructor
    · pointwise [k1_pay12]
      rw [e1, Finset.sum_range_succ, EReal.coe_add, coe_sum Finset.univ]
      simp only [e]
    · pointwise [k1_pay13]
      rw [e2, Finset.sum_range_succ, EReal.coe_add, coe_sum Finset.univ]
      simp only [e, EReal.coe_mul]

theorem sums2 (hH : Rows1 c X0 X1 X2 X3 X4 X5 H β) (hO : Ops2 c X6 X7 X8 X9 X10 X11 G1 BE1 W2 B2 G2 BE2) (n : Fin 256) :
    (sum2 c X0 X1 X2 X3 X4 X5 X6 X7 X8 X9 8).1 (ix2 0 n) = ((∑ r : Fin 16384, layer2 (actsK H β G1 BE1) W2 B2 r n : ℝ) : EReal)
    ∧ (sum2 c X0 X1 X2 X3 X4 X5 X6 X7 X8 X9 8).2 (ix2 0 n) = ((∑ r : Fin 16384, layer2 (actsK H β G1 BE1) W2 B2 r n * layer2 (actsK H β G1 BE1) W2 B2 r n : ℝ) : EReal) := by
  obtain ⟨e1, e2⟩ := sum2_apply hH hO n 8 le_rfl
  rw [e1, e2, sum_rows (fun i => rows2 (actsK H β G1 BE1) W2 B2 i n), sum_rows (fun i => rows2 (actsK H β G1 BE1) W2 B2 i n * rows2 (actsK H β G1 BE1) W2 B2 i n)]
  simp only [rows2_fin, and_self]

theorem outb_apply (hH : Rows1 c X0 X1 X2 X3 X4 X5 H β) (hO : Ops2 c X6 X7 X8 X9 X10 X11 G1 BE1 W2 B2 G2 BE2) (k : Fin 8) (r : Fin 2048) (n : Fin 256) :
    outb c X0 X1 X2 X3 X4 X5 X6 X7 X8 X9 X10 X11 k.val (ix2 r n) = outE (layer2 (actsK H β G1 BE1) W2 B2) G2 BE2 ⟨2048 * k.val + r.val, by omega⟩ n := by
  have e := pay10_apply hH hO k r n
  unfold outb h2b
  pointwise [k1_pay18, k1_pay16, k1_pay14, k1_pay15, k1_pay11]
  rw [e]
  simp only [ofBits_inv, ofBits_eps, (sums2 hH hO _).1, (sums2 hH hO _).2, mean_eq, hO.g2, hO.be2, scale_eq']
  rw [kernel_bn (fun r : Fin 16384 => layer2 (actsK H β G1 BE1) W2 B2 r n) (G2 n) (BE2 n) ⟨2048 * k.val + r.val, by omega⟩]
  rfl

/-- The result at row `R`, column `n`. -/
theorem fusedOut_apply (hH : Rows1 c X0 X1 X2 X3 X4 X5 H β) (hO : Ops2 c X6 X7 X8 X9 X10 X11 G1 BE1 W2 B2 G2 BE2) (R : Fin 16384) (n : Fin 256) :
    fusedOut c X0 X1 X2 X3 X4 X5 X6 X7 X8 X9 X10 X11 (ix2 R n) = outE (layer2 (actsK H β G1 BE1) W2 B2) G2 BE2 R n := by
  have e := outb_apply hH hO ⟨R.val / 2048, by omega⟩ ⟨R.val % 2048, by omega⟩ n
  have hR : (⟨2048 * (R.val / 2048) + R.val % 2048, by omega⟩ : Fin 16384) = R := Fin.ext (Nat.div_add_mod _ _)
  dsimp only at e
  rw [hR] at e
  rw [← e]
  rfl

end

end Cert.Proof.V

end
-- ==== Proof.V.Prep.lean ====
/-
  The first kernel's five tables at an index: the per-row table, the numeric features' matrix, the bias row, the
  field-of-a-row indicator and the row's position in its field.
-/
module

public import proofs.«01_k».proof.Proof.KI.PrepRun
public import proofs.«01_k».proof.Proof.V.Norm
public import Idealize.ShloMosaic.Lib.VecWindow

@[expose] public section

set_option maxRecDepth 65536
set_option maxHeartbeats 1000000

noncomputable section

namespace Cert.Proof.V

open Cert.KernelIdeal Cert.KernelIdeal.Gen
open Idealize.ShloMosaic
open Idealize.ShloMosaic.TcCoe
open Cert.Proof.KI

/-- The first table row of each field. -/
def off : Fin 16 → ℕ := ![0, 9, 13, 20, 22, 42, 49, 99, 107, 115, 117, 119, 121, 123, 125, 127]
/-- The number of table rows of each field. -/
def dims : Fin 16 → ℕ := ![9, 4, 7, 2, 20, 7, 50, 8, 8, 2, 2, 2, 2, 2, 2, 2]
/-- The field a row lies in: the last whose first row is not after it. -/
def fieldOf (l : ℕ) : Fin 16 := ⟨min ((List.finRange 16).countP (fun k => decide (off k ≤ l)) - 1) 15, by omega⟩

/-- One store of a whole buffer leaves what was stored. -/
theorem whole_writes {κ : Kind} {Val : EltTy → Type} (b : Ref sig κ) (f : b.ty.Contents Val) (o : Fin b.ty.shape.rank → ℕ) (inb : ∀ a, o a + b.ty.shape.size a ≤ b.ty.shape.size a)
    (w : b.ty.Contents Val) : (View.whole b).writes Val f [⟨Rect.unit o b.ty.shape.size inb, w⟩] = w :=
  View.read_writes_full (View.whole b) f inb w []

/-- A load of a whole buffer reads what it holds. -/
theorem whole_read {κ : Kind} {Val : EltTy → Type} (b : Ref sig κ) (X : b.ty.Contents Val) (o : Fin b.ty.shape.rank → ℕ) (inb : ∀ a, o a + b.ty.shape.size a ≤ b.ty.shape.size a) :
    View.readAt Val (View.whole b) (Rect.unit o b.ty.shape.size inb).toLoadRect X = X :=
  View.readAt_full (View.whole b) X inb

/-- A choice by the range a row lies in. -/
theorem select_range (l a b : ℕ) (x y : EReal) (hl : l < 1000) (ha : a < 1000) (hb : b < 1000) :
    Scalar.select (IntOp.andi (IntOp.cmpi .sge (BitVec.ofNat 32 l) (BitVec.ofNat 32 a)) (IntOp.cmpi .slt (BitVec.ofNat 32 l) (BitVec.ofNat 32 b))) x y
      = if a ≤ l ∧ l < b then x else y := by
  have e : ∀ m : ℕ, m < 1000 → (BitVec.ofNat 32 m).toInt = (m : ℤ) := fun m hm => by
    have h : (BitVec.ofNat 32 m).toNat = m := by rw [BitVec.toNat_ofNat]; exact Nat.mod_eq_of_lt (by omega)
    rw [BitVec.toInt_eq_toNat_of_lt (by rw [h]; omega), h]
  have h1 : (BitVec.ofNat 32 a).sle (BitVec.ofNat 32 l) = decide (a ≤ l) := by
    simp only [BitVec.sle, e a ha, e l hl, Nat.cast_le]
  have h2 : (BitVec.ofNat 32 l).slt (BitVec.ofNat 32 b) = decide (l < b) := by
    simp only [BitVec.slt, e b hb, e l hl, Nat.cast_lt]
  unfold Scalar.select IntOp.andi IntOp.cmpi
  simp only [h1, h2]
  by_cases p : a ≤ l <;> by_cases q : l < b <;> simp [p, q]

section

variable (X0 : S136x128.Idx → EReal) (X1 : S512x2176.Idx → EReal) (X2 : S64x128.Idx → EReal) (X3 : S1x128.Idx → EReal) (X4 : S1x512.Idx → EReal)

variable (c : Dev nD)

/-- The first kernel's results. -/
abbrev tabP : S256x512.Idx → EReal := (prepRun (F := Ideal) c X0 X1 X2 X3 X4).1
abbrev tabM : S64x512.Idx → EReal := (prepRun (F := Ideal) c X0 X1 X2 X3 X4).2.1
abbrev tabB : S8x512.Idx → EReal := (prepRun (F := Ideal) c X0 X1 X2 X3 X4).2.2.1
abbrev tabG : S16x256.Idx → EReal := (prepRun (F := Ideal) c X0 X1 X2 X3 X4).2.2.2.1
abbrev tabV : S8x256.Idx → EReal := (prepRun (F := Ideal) c X0 X1 X2 X3 X4).2.2.2.2.1

/-- A slice of 128 columns of the first layer's weights at an index. -/
theorem slice_w (o : ℕ) (inb) (n : Fin 512) (x : Fin 128) (h : o + 128 ≤ 2176) :
    View.readAt (Elt Ideal) (View.whole cc0_stg1_0) (Rect.unit (s := S512x2176) ![0, o] ![512, 128] inb).toLoadRect X1 (ix2 n x)
      = X1 (ix2 n (⟨o + x.val, by omega⟩ : Fin 2176)) := by
  rw [View.readAt_apply]
  refine congrArg X1 (funext fun a => ?_)
  fin_cases a
  · exact Fin.ext (show 0 + 1 * n.val = n.val by omega)
  · exact Fin.ext (show o + 1 * x.val = o + x.val by omega)

theorem full_t (inb) (l : Fin 136) (x : Fin 128) :
    View.readAt (Elt Ideal) (View.whole cc0_stg0_0) (Rect.unit (s := S136x128) ![0, 0] ![136, 128] inb).toLoadRect X0 (ix2 l x) = X0 (ix2 l x) :=
  congrFun (whole_read (Val := Elt Ideal) cc0_stg0_0 X0 ![0, 0] inb) _

theorem full_wn (inb) (j : Fin 64) (x : Fin 128) :
    View.readAt (Elt Ideal) (View.whole cc0_stg2_0) (Rect.unit (s := S64x128) ![0, 0] ![64, 128] inb).toLoadRect X2 (ix2 j x) = X2 (ix2 j x) :=
  congrFun (whole_read (Val := Elt Ideal) cc0_stg2_0 X2 ![0, 0] inb) _

theorem full_bn (inb) (j : Fin 1) (x : Fin 128) :
    View.readAt (Elt Ideal) (View.whole cc0_stg3_0) (Rect.unit (s := S1x128) ![0, 0] ![1, 128] inb).toLoadRect X3 (ix2 j x) = X3 (ix2 j x) :=
  congrFun (whole_read (Val := Elt Ideal) cc0_stg3_0 X3 ![0, 0] inb) _

theorem full_b1 (inb) (j : Fin 1) (x : Fin 512) :
    View.readAt (Elt Ideal) (View.whole cc0_stg4_0) (Rect.unit (s := S1x512) ![0, 0] ![1, 512] inb).toLoadRect X4 (ix2 j x) = X4 (ix2 j x) :=
  congrFun (whole_read (Val := Elt Ideal) cc0_stg4_0 X4 ![0, 0] inb) _

/-- The numeric features' matrix. -/
theorem prep_m (j : Fin 64) (n : Fin 512) : tabM X0 X1 X2 X3 X4 c (ix2 j n)
    = (∑ x : Fin 128, X2 (ix2 j x) * X1 (ix2 n (⟨2048 + x.val, by omega⟩ : Fin 2176)) : EReal) := by
  unfold tabM prepRun
  dsimp only
  unfold prepRun.sl.H6_1
  refine (congrFun (whole_writes cc0_stg6_0 _ ![0, 0] _ _) (ix2 j n)).trans ?_
  pointwise [k0_pay21]
  simp (disch := omega) only [full_wn, slice_w]

/-- The bias row. -/
theorem prep_b (j : Fin 8) (n : Fin 512) : tabB X0 X1 X2 X3 X4 c (ix2 j n)
    = (X4 (ix2 0 n) + ∑ x : Fin 128, X3 (ix2 0 x) * X1 (ix2 n (⟨2048 + x.val, by omega⟩ : Fin 2176)) : EReal) := by
  unfold tabB prepRun
  dsimp only
  unfold prepRun.sl.H7_1
  refine (congrFun (whole_writes cc0_stg7_0 _ ![0, 0] _ _) (ix2 j n)).trans ?_
  pointwise [k0_pay22]
  simp (disch := omega) only [full_b1, full_bn, slice_w]

/-- The indicator of a row's field. -/
theorem prep_g (k : Fin 16) (l : Fin 256) : tabG X0 X1 X2 X3 X4 c (ix2 k l) = (((if k = fieldOf l.val then 1 else 0 : ℤ) : ℝ) : EReal) := by
  unfold tabG prepRun
  dsimp only
  unfold prepRun.sl.H8_1
  refine (congrFun (whole_writes cc0_stg8_0 _ ![0, 0] _ _) (ix2 k l)).trans ?_
  pointwise [k0_pay1, k0_pay2, k0_pay3, prepRun.sl.v211, prepRun.sl.v212, prepRun.sl.v214, prepRun.sl.v216, prepRun.sl.v221, prepRun.sl.v223, prepRun.sl.v224, prepRun.sl.v228, prepRun.sl.v230, prepRun.sl.v235, prepRun.sl.v237, prepRun.sl.v238, prepRun.sl.v242, prepRun.sl.v244, prepRun.sl.v249, prepRun.sl.v251, prepRun.sl.v252, prepRun.sl.v256, prepRun.sl.v258, prepRun.sl.v263, prepRun.sl.v265, prepRun.sl.v266, prepRun.sl.v270, prepRun.sl.v272, prepRun.sl.v277, prepRun.sl.v279, prepRun.sl.v280, prepRun.sl.v284, prepRun.sl.v286, prepRun.sl.v291, prepRun.sl.v293, prepRun.sl.v294, prepRun.sl.v298, prepRun.sl.v300]
  refine congrArg (fun b : ℤ => ((b : ℝ) : EReal)) (show BitVec.toInt _ = _ from ?_)
  revert k l
  decide +kernel

/-- A row's position in its field. -/
theorem prep_v (j : Fin 8) (l : Fin 256) : tabV X0 X1 X2 X3 X4 c (ix2 j l) = ((((l.val : ℤ) - (off (fieldOf l.val) : ℤ) : ℤ) : ℝ) : EReal) := by
  unfold tabV prepRun
  dsimp only
  unfold prepRun.sl.H9_1
  refine (congrFun (whole_writes cc0_stg9_0 _ ![0, 0] _ _) (ix2 j l)).trans ?_
  pointwise [k0_pay1, k0_pay2, k0_pay4, prepRun.sl.v211, prepRun.sl.v212, prepRun.sl.v214, prepRun.sl.v216, prepRun.sl.v220, prepRun.sl.v221, prepRun.sl.v223, prepRun.sl.v225, prepRun.sl.v227, prepRun.sl.v228, prepRun.sl.v230, prepRun.sl.v232, prepRun.sl.v234, prepRun.sl.v235, prepRun.sl.v237, prepRun.sl.v239, prepRun.sl.v241, prepRun.sl.v242, prepRun.sl.v244, prepRun.sl.v248, prepRun.sl.v249, prepRun.sl.v251, prepRun.sl.v255, prepRun.sl.v256, prepRun.sl.v258, prepRun.sl.v260, prepRun.sl.v262, prepRun.sl.v263, prepRun.sl.v265, prepRun.sl.v267, prepRun.sl.v269, prepRun.sl.v270, prepRun.sl.v272, prepRun.sl.v276, prepRun.sl.v277, prepRun.sl.v279, prepRun.sl.v283, prepRun.sl.v284, prepRun.sl.v286, prepRun.sl.v290, prepRun.sl.v291, prepRun.sl.v293, prepRun.sl.v297, prepRun.sl.v298, prepRun.sl.v300]
  refine congrArg (fun b : ℤ => ((b : ℝ) : EReal)) (show BitVec.toInt _ = _ from ?_)
  revert l
  decide +kernel

/-- The sixteen fields' terms one after another. -/
theorem sum_fields (t : Fin 16 → EReal) :
    ∑ f, t f = t 0 + t 1 + t 2 + t 3 + t 4 + t 5 + t 6 + t 7 + t 8 + t 9 + t 10 + t 11 + t 12 + t 13 + t 14 + t 15 := by
  simp only [Fin.sum_univ_castSucc, Fin.sum_univ_zero, zero_add]
  rfl

/-- The table as the first kernel loads it. -/
abbrev loadT (inb : ∀ a, (![0, 0] : Fin S136x128.rank → ℕ) a + (![136, 128] : Fin S136x128.rank → ℕ) a ≤ S136x128.size a) : S136x128.Idx → EReal := View.readAt (Elt Ideal) (View.whole cc0_stg0_0) (Rect.unit (s := S136x128) ![0, 0] ![136, 128] inb).toLoadRect X0
/-- 128 columns of the weights as the first kernel loads them. -/
abbrev loadW (o : ℕ) (inb : ∀ a, (![0, o] : Fin S512x2176.rank → ℕ) a + (![512, 128] : Fin S512x2176.rank → ℕ) a ≤ S512x2176.size a) : S512x128.Idx → EReal := View.readAt (Elt Ideal) (View.whole cc0_stg1_0) (Rect.unit (s := S512x2176) ![0, o] ![512, 128] inb).toLoadRect X1

/-- One field's term of the per-row table. -/
theorem term_p (f : Fin 16) (inb0) (inb1) (l : Fin 136) (n : Fin 512) :
    Scalar.select (IntOp.andi (IntOp.cmpi .sge (BitVec.ofNat 32 l.val) (BitVec.ofNat 32 (off f))) (IntOp.cmpi .slt (BitVec.ofNat 32 l.val) (BitVec.ofNat 32 (off f + dims f))))
      (∑ x : Fin 128, loadT X0 inb0 (ix2 l x) * loadW X1 (128 * f.val) inb1 (ix2 n x)) 0
      = if off f ≤ l.val ∧ l.val < off f + dims f then ∑ x : Fin 128, X0 (ix2 l x) * X1 (ix2 n (⟨128 * f.val + x.val, by omega⟩ : Fin 2176)) else 0 := by
  have hf : off f < 1000 ∧ off f + dims f < 1000 := by revert f; decide
  rw [select_range _ _ _ _ _ (by omega) hf.1 hf.2]
  refine if_congr Iff.rfl (Finset.sum_congr rfl fun x _ => ?_) rfl
  exact congrArg₂ (· * ·) (full_t X0 inb0 l x) (slice_w X1 _ inb1 n x (by omega))

/-- The per-row table: the row's field's embedding through that field's columns of the weights. -/
theorem prep_p (l : Fin 256) (n : Fin 512) : tabP X0 X1 X2 X3 X4 c (ix2 l n)
    = (if h : l.val < 136 then ∑ f : Fin 16, (if off f ≤ l.val ∧ l.val < off f + dims f then ∑ x : Fin 128, X0 (ix2 (⟨l.val, h⟩ : Fin 136) x) * X1 (ix2 n (⟨128 * f.val + x.val, by omega⟩ : Fin 2176)) else 0) else 0 : EReal) := by
  unfold tabP prepRun
  dsimp only
  unfold prepRun.sl.H5_1
  refine (congrFun (whole_writes cc0_stg5_0 _ ![0, 0] _ _) (ix2 l n)).trans ?_
  pointwise [k0_pay5, k0_pay6, k0_pay7, k0_pay8, k0_pay9, k0_pay10, k0_pay11, k0_pay12, k0_pay13, k0_pay14, k0_pay15, k0_pay16, k0_pay17, k0_pay18, k0_pay19, k0_pay20, prepRun.sl.cst_16, prepRun.sl.r, prepRun.sl.r_1, prepRun.sl.r_2, prepRun.sl.r_3, prepRun.sl.r_4, prepRun.sl.r_5, prepRun.sl.r_6, prepRun.sl.r_7, prepRun.sl.r_8, prepRun.sl.r_9, prepRun.sl.v0]
  by_cases h : l.val < 136
  · rw [dif_pos h, dif_pos h]
    refine Eq.trans ?_ (sum_fields _).symm
    refine congrArg₂ (· + ·) ?_ (term_p X0 X1 15 inb_S136x128_S136x128_0_0 inb_S512x2176_S512x128_0_1920 ⟨l.val, h⟩ n)
    refine congrArg₂ (· + ·) ?_ (term_p X0 X1 14 inb_S136x128_S136x128_0_0 inb_S512x2176_S512x128_0_1792 ⟨l.val, h⟩ n)
    refine congrArg₂ (· + ·) ?_ (term_p X0 X1 13 inb_S136x128_S136x128_0_0 inb_S512x2176_S512x128_0_1664 ⟨l.val, h⟩ n)
    refine congrArg₂ (· + ·) ?_ (term_p X0 X1 12 inb_S136x128_S136x128_0_0 inb_S512x2176_S512x128_0_1536 ⟨l.val, h⟩ n)
    refine congrArg₂ (· + ·) ?_ (term_p X0 X1 11 inb_S136x128_S136x128_0_0 inb_S512x2176_S512x128_0_1408 ⟨l.val, h⟩ n)
    refine congrArg₂ (· + ·) ?_ (term_p X0 X1 10 inb_S136x128_S136x128_0_0 inb_S512x2176_S512x128_0_1280 ⟨l.val, h⟩ n)
    refine congrArg₂ (· + ·) ?_ (term_p X0 X1 9 inb_S136x128_S136x128_0_0 inb_S512x2176_S512x128_0_1152 ⟨l.val, h⟩ n)
    refine congrArg₂ (· + ·) ?_ (term_p X0 X1 8 inb_S136x128_S136x128_0_0 inb_S512x2176_S512x128_0_1024 ⟨l.val, h⟩ n)
    refine congrArg₂ (· + ·) ?_ (term_p X0 X1 7 inb_S136x128_S136x128_0_0 inb_S512x2176_S512x128_0_896 ⟨l.val, h⟩ n)
    refine congrArg₂ (· + ·) ?_ (term_p X0 X1 6 inb_S136x128_S136x128_0_0 inb_S512x2176_S512x128_0_768 ⟨l.val, h⟩ n)
    refine congrArg₂ (· + ·) ?_ (term_p X0 X1 5 inb_S136x128_S136x128_0_0 inb_S512x2176_S512x128_0_640 ⟨l.val, h⟩ n)
    refine congrArg₂ (· + ·) ?_ (term_p X0 X1 4 inb_S136x128_S136x128_0_0 inb_S512x2176_S512x128_0_512 ⟨l.val, h⟩ n)
    refine congrArg₂ (· + ·) ?_ (term_p X0 X1 3 inb_S136x128_S136x128_0_0 inb_S512x2176_S512x128_0_384 ⟨l.val, h⟩ n)
    refine congrArg₂ (· + ·) ?_ (term_p X0 X1 2 inb_S136x128_S136x128_0_0 inb_S512x2176_S512x128_0_256 ⟨l.val, h⟩ n)
    refine congrArg₂ (· + ·) ?_ (term_p X0 X1 1 inb_S136x128_S136x128_0_0 inb_S512x2176_S512x128_0_128 ⟨l.val, h⟩ n)
    exact term_p X0 X1 0 inb_S136x128_S136x128_0_0 inb_S512x2176_S512x128_0_0 ⟨l.val, h⟩ n
  · rw [dif_neg h, dif_neg h]
end

end Cert.Proof.V

end
-- ==== Proof.V.Model.lean ====
/-
  The inputs as real numbers, and what the two layers are of them. A field of a row names one of its table's lines; the
  other entries are finite, save the first layer's two biases and the last shift, which may be
  anything, and the first shift, which may be anything but the top.
-/
module

public import proofs.«01_k».proof.Proof.V.Fused
public import proofs.«01_k».proof.Proof.V.Prep

@[expose] public section

noncomputable section

namespace Cert.Proof.V

open Cert.KernelIdeal
open Idealize.ShloMosaic

/-- The arguments' entries as numbers: `K` the fields, `N` the numerical columns, the rest by the arguments' names. -/
structure Nums (aX : S16384x79.Idx → EReal) (aT : S129x128.Idx → EReal) (aWn : S128x63.Idx → EReal) (_aBn : S128.Idx → EReal)
    (aW1 : S512x2176.Idx → EReal) (_aB1 aG1 aBe1 : S512.Idx → EReal) (aW2 : S256x512.Idx → EReal) (aB2 aG2 : S256.Idx → EReal) where
  K : ℕ → Fin 16 → ℕ
  N : ℕ → Fin 63 → ℝ
  T : ℕ → Fin 128 → ℝ
  WN : Fin 128 → Fin 63 → ℝ
  W1 : Fin 512 → ℕ → ℝ
  G1 : Fin 512 → ℝ
  W2 : Fin 256 → Fin 512 → ℝ
  B2 : Fin 256 → ℝ
  G2 : Fin 256 → ℝ
  k_lt : ∀ (r : Fin 16384) f, K r.val f < dims f
  k_val : ∀ (r : Fin 16384) (f : Fin 16) (h : f.val < 79), aX (ix2 r (⟨f.val, h⟩ : Fin 79)) = (((K r.val f : ℕ) : ℝ) : EReal)
  k_int : ∀ (r : Fin 16384) (f : Fin 16) (h : f.val < 79), (FloatOps.fptosi (F := Ideal) (φ := .f32) 32 (aX (ix2 r (⟨f.val, h⟩ : Fin 79))) : BitVec 32) = BitVec.ofNat 32 (K r.val f)
  n_val : ∀ (r : Fin 16384) (j : Fin 63) (h : 16 + j.val < 79), aX (ix2 r (⟨16 + j.val, h⟩ : Fin 79)) = ((N r.val j : ℝ) : EReal)
  t_val : ∀ (l : Fin 129) d, aT (ix2 l d) = ((T l.val d : ℝ) : EReal)
  wn_val : ∀ d j, aWn (ix2 d j) = ((WN d j : ℝ) : EReal)
  w1_val : ∀ n (e : Fin 2176), aW1 (ix2 n e) = ((W1 n e.val : ℝ) : EReal)
  g1_val : ∀ n, aG1 (ix1 n) = ((G1 n : ℝ) : EReal)
  be1_top : ∀ n, aBe1 (ix1 n) ≠ ⊤
  w2_val : ∀ n x, aW2 (ix2 n x) = ((W2 n x : ℝ) : EReal)
  b2_val : ∀ n, aB2 (ix1 n) = ((B2 n : ℝ) : EReal)
  g2_val : ∀ n, aG2 (ix1 n) = ((G2 n : ℝ) : EReal)

namespace Nums

variable {aX : S16384x79.Idx → EReal} {aT : S129x128.Idx → EReal} {aWn : S128x63.Idx → EReal} {aBn : S128.Idx → EReal}
  {aW1 : S512x2176.Idx → EReal} {aB1 aG1 aBe1 : S512.Idx → EReal} {aW2 : S256x512.Idx → EReal} {aB2 aG2 : S256.Idx → EReal}

/-- The first layer before its normalisation and without its biases: the fields' table lines, then the numerical embedding, each against its
    part of the first weights. -/
def H1 (M : Nums aX aT aWn aBn aW1 aB1 aG1 aBe1 aW2 aB2 aG2) (r : ℕ) (n : Fin 512) : ℝ :=
  (∑ f : Fin 16, ∑ d : Fin 128, M.T (off f + M.K r f) d * M.W1 n (128 * f.val + d.val))
    + ∑ d : Fin 128, (∑ j : Fin 63, M.N r j * M.WN d j) * M.W1 n (2048 + d.val)

/-- What the biases of the numerical embedding and of the first layer add to a column. -/
def bias (M : Nums aX aT aWn aBn aW1 aB1 aG1 aBe1 aW2 aB2 aG2) (n : Fin 512) : EReal :=
  aB1 (ix1 n) + ∑ d : Fin 128, aBn (ix1 d) * ((M.W1 n (2048 + d.val) : ℝ) : EReal)

/-- The second layer before its normalisation. -/
def H2 (M : Nums aX aT aWn aBn aW1 aB1 aG1 aBe1 aW2 aB2 aG2) : Fin 16384 → Fin 256 → ℝ :=
  layer2 (actsR M.H1 M.bias M.G1 (fun n => aBe1 (ix1 n))) M.W2 M.B2

/-- The result. -/
def out (M : Nums aX aT aWn aBn aW1 aB1 aG1 aBe1 aW2 aB2 aG2) (aBe2 : S256.Idx → EReal) (r : Fin 16384) (n : Fin 256) : EReal :=
  outE M.H2 M.G2 (fun n => aBe2 (ix1 n)) r n

/-- Equal arguments are the same numbers. -/
theorem same {bX : S16384x79.Idx → EReal} {bT : S129x128.Idx → EReal} {bWn : S128x63.Idx → EReal} {bBn : S128.Idx → EReal}
    {bW1 : S512x2176.Idx → EReal} {bB1 bG1 bBe1 : S512.Idx → EReal} {bW2 : S256x512.Idx → EReal} {bB2 bG2 bBe2 aBe2 : S256.Idx → EReal}
    (M : Nums aX aT aWn aBn aW1 aB1 aG1 aBe1 aW2 aB2 aG2)
    (h : bX = aX ∧ bT = aT ∧ bWn = aWn ∧ bBn = aBn ∧ bW1 = aW1 ∧ bB1 = aB1 ∧ bG1 = aG1 ∧ bBe1 = aBe1 ∧ bW2 = aW2 ∧ bB2 = aB2 ∧ bG2 = aG2 ∧ bBe2 = aBe2) :
    ∃ M' : Nums bX bT bWn bBn bW1 bB1 bG1 bBe1 bW2 bB2 bG2, ∀ r n, M'.out bBe2 r n = M.out aBe2 r n := by
  obtain ⟨rfl, rfl, rfl, rfl, rfl, rfl, rfl, rfl, rfl, rfl, rfl, rfl⟩ := h
  exact ⟨M, fun _ _ => rfl⟩

end Nums

/-- A line in a field's range is that field's, and the field's line number is what is left past the range's start. -/
theorem field_of_range : ∀ (f : Fin 16) (l : Fin 256), off f ≤ l.val → l.val < off f + dims f → fieldOf l.val = f := by
  decide +kernel

theorem range_lt : ∀ f : Fin 16, off f + dims f ≤ 129 := by decide

/-- One line of every field's range is picked: the sum over the lines is the sum over the fields. -/
theorem pick_lines (K : Fin 16 → ℕ) (hK : ∀ f, K f < dims f) (Q : Fin 16 → ℕ → ℝ) :
    ∑ l : Fin 256, (if l.val = off (fieldOf l.val) + K (fieldOf l.val) then (1 : ℝ) else 0) * (∑ f : Fin 16, if off f ≤ l.val ∧ l.val < off f + dims f then Q f l.val else 0)
      = ∑ f : Fin 16, Q f (off f + K f) := by
  simp only [Finset.mul_sum]
  rw [Finset.sum_comm]
  refine Finset.sum_congr rfl fun f _ => ?_
  have hf := range_lt f
  have hk := hK f
  rw [Finset.sum_eq_single (⟨off f + K f, by omega⟩ : Fin 256)]
  · have e := field_of_range f ⟨off f + K f, by omega⟩ (by simp) (by simpa using hk)
    simp only at e
    rw [e, if_pos rfl, if_pos ⟨Nat.le_add_right _ _, Nat.add_lt_add_left hk _⟩, one_mul]
  · intro l _ hl
    by_cases h : off f ≤ l.val ∧ l.val < off f + dims f
    · have e := field_of_range f l h.1 h.2
      rw [e, if_neg (fun h' => hl (Fin.ext h')), zero_mul]
    · rw [if_neg h, mul_zero]
  · intro h; exact absurd (Finset.mem_univ _) h

end Cert.Proof.V
-- ==== Proof.V.Host.lean ====
/-
  What the two launches find in their operands, at an index, from the program's arguments.
-/
module

public import proofs.«01_k».proof.Proof.KI.Run
public import proofs.«01_k».proof.Proof.V.Prep

@[expose] public section

set_option maxRecDepth 65536
set_option maxHeartbeats 1000000

noncomputable section

namespace Cert.Proof.V

open Cert.KernelIdeal Cert.KernelIdeal.Gen
open Idealize.ShloMosaic
open Idealize.ShloMosaic.TcCoe
open Idealize.ShloMosaic.Pipeline (Dat Cfg Window)
open Cert.Proof.KI

variable (m : (ℓ : Loc nD τ sig) → Buf (Elt Ideal) ℓ) (c : Dev nD)

/-- The program's arguments. -/
abbrev inX : S16384x79.Idx → EReal := m ((c : Thread nD τ).loc main_arg0)
abbrev inT : S129x128.Idx → EReal := m ((c : Thread nD τ).loc main_arg1)
abbrev inWn : S128x63.Idx → EReal := m ((c : Thread nD τ).loc main_arg2)
abbrev inBn : S128.Idx → EReal := m ((c : Thread nD τ).loc main_arg3)
abbrev inW1 : S512x2176.Idx → EReal := m ((c : Thread nD τ).loc main_arg4)
abbrev inB1 : S512.Idx → EReal := m ((c : Thread nD τ).loc main_arg5)
abbrev inG1 : S512.Idx → EReal := m ((c : Thread nD τ).loc main_arg6)
abbrev inBe1 : S512.Idx → EReal := m ((c : Thread nD τ).loc main_arg7)
abbrev inW2 : S256x512.Idx → EReal := m ((c : Thread nD τ).loc main_arg8)
abbrev inB2 : S256.Idx → EReal := m ((c : Thread nD τ).loc main_arg9)
abbrev inG2 : S256.Idx → EReal := m ((c : Thread nD τ).loc main_arg10)
abbrev inBe2 : S256.Idx → EReal := m ((c : Thread nD τ).loc main_arg11)

theorem sitofp_zero : (FloatOps.sitofp (F := Ideal) .f32 (0#32 : BitVec 32) : EReal) = 0 := by
  show (((0#32 : BitVec 32).toInt : ℝ) : EReal) = 0
  simp

theorem v0_eq : V5 m c main_v0 = pad S136x128 ![0, 0] ![7, 0] ![0, 0] (inT m c) (sitofp (F := Ideal) .f32 (constantI S_ 32 0#32)) pads_S129x128_S136x128_070_000 h_S_ := by
  rw [V5_of m c _ (by decide), V4_of m c _ (by decide), V3_of m c _ (by decide)]
  unfold V2 V1
  after_results_simp
  rfl

theorem v0_apply (l : Fin 136) (x : Fin 128) : (V5 m c main_v0 : S136x128.Idx → EReal) (ix2 l x) = if h : l.val < 129 then inT m c (ix2 (⟨l.val, h⟩ : Fin 129) x) else 0 := by
  rw [v0_eq]
  pointwise
  rw [sitofp_zero]

theorem v2_eq : V5 m c main_v2 = pad S64x128 ![0, 0] ![1, 0] ![0, 0] (transpose S63x128 [1, 0] (inWn m c) transposes_S128x63_S63x128_1_0) (sitofp (F := Ideal) .f32 (constantI S_ 32 0#32)) pads_S63x128_S64x128_010_000 h_S_ := by
  rw [V5_of m c _ (by decide)]
  unfold V4 V3
  after_results_simp
  rfl

theorem v2_apply (j : Fin 64) (x : Fin 128) : (V5 m c main_v2 : S64x128.Idx → EReal) (ix2 j x) = if h : j.val < 63 then inWn m c (ix2 x (⟨j.val, h⟩ : Fin 63)) else 0 := by
  rw [v2_eq]
  pointwise
  rw [sitofp_zero]

theorem v3_apply (l : Fin 128) : (V5 m c main_v3 : S1x128.Idx → EReal) (ix2 0 l) = inBn m c (ix1 l) := by
  have e : V5 m c main_v3 = shapeCast S1x128 (inBn m c) shapeCasts_S128_S1x128 := by
    unfold V5
    after_results_simp
    rfl
  rw [e]
  pointwise

theorem v4_apply (l : Fin 512) : (V5 m c main_v4 : S1x512.Idx → EReal) (ix2 0 l) = inB1 m c (ix1 l) := by
  have e : V5 m c main_v4 = shapeCast S1x512 (inB1 m c) shapeCasts_S512_S1x512 := by
    unfold V5
    after_results_simp
    rfl
  rw [e]
  pointwise

/-- An argument the first stretches leave alone. -/
theorem arg5 (b : Ref sig .tc) (hb : b ∈ argRefs) : V5 m c b = m ((c : Thread nD τ).loc b) := by
  obtain ⟨⟨h0, h1, h2, h3, h4, -⟩, -⟩ := args_unwritten b hb
  exact (V5_of m c b h4).trans ((V4_of m c b h3).trans ((V3_of m c b h2).trans ((V2_of m c b h1).trans (V1_of m c b h0))))

/-- An argument the first launch leaves alone. -/
theorem arg6 (b : Ref sig .tc) (hb : b ∈ argRefs) : V6 m (outs6 m) c b = m ((c : Thread nD τ).loc b) :=
  (V6_of m (outs6 m) c b (args_unwritten b hb).1.2.2.2.2.2.1).trans (arg5 m c b hb)

/-- An argument the stretch after it leaves alone. -/
theorem arg7 (b : Ref sig .tc) (hb : b ∈ argRefs) : V7 m (outs6 m) c b = m ((c : Thread nD τ).loc b) :=
  (V7_of m (outs6 m) c b (args_unwritten b hb).1.2.2.2.2.2.2.1).trans (arg6 m c b hb)

theorem v6_eq : (V7 m (outs6 m) c main_v6 : S16384x79.Idx → EReal) = inX m c := by
  unfold V7
  after_results_simp
  rw [arg6 m c main_arg0 (by decide)]
  rfl

theorem v7_apply (l : Fin 512) : (V7 m (outs6 m) c main_v7 : S1x512.Idx → EReal) (ix2 0 l) = inG1 m c (ix1 l) := by
  have e : V7 m (outs6 m) c main_v7 = shapeCast S1x512 (inG1 m c) shapeCasts_S512_S1x512 := by
    unfold V7
    after_results_simp
    rw [arg6 m c main_arg6 (by decide)]
    rfl
  rw [e]
  pointwise

theorem v8_apply (l : Fin 512) : (V7 m (outs6 m) c main_v8 : S1x512.Idx → EReal) (ix2 0 l) = inBe1 m c (ix1 l) := by
  have e : V7 m (outs6 m) c main_v8 = shapeCast S1x512 (inBe1 m c) shapeCasts_S512_S1x512 := by
    unfold V7
    after_results_simp
    rw [arg6 m c main_arg7 (by decide)]
    rfl
  rw [e]
  pointwise

theorem v9_apply (l : Fin 256) : (V7 m (outs6 m) c main_v9 : S1x256.Idx → EReal) (ix2 0 l) = inB2 m c (ix1 l) := by
  have e : V7 m (outs6 m) c main_v9 = shapeCast S1x256 (inB2 m c) shapeCasts_S256_S1x256 := by
    unfold V7
    after_results_simp
    rw [arg6 m c main_arg9 (by decide)]
    rfl
  rw [e]
  pointwise

theorem v10_apply (l : Fin 256) : (V7 m (outs6 m) c main_v10 : S1x256.Idx → EReal) (ix2 0 l) = inG2 m c (ix1 l) := by
  have e : V7 m (outs6 m) c main_v10 = shapeCast S1x256 (inG2 m c) shapeCasts_S256_S1x256 := by
    unfold V7
    after_results_simp
    rw [arg6 m c main_arg10 (by decide)]
    rfl
  rw [e]
  pointwise

theorem v11_apply (l : Fin 256) : (V7 m (outs6 m) c main_v11 : S1x256.Idx → EReal) (ix2 0 l) = inBe2 m c (ix1 l) := by
  have e : V7 m (outs6 m) c main_v11 = shapeCast S1x256 (inBe2 m c) shapeCasts_S256_S1x256 := by
    unfold V7
    after_results_simp
    rw [arg6 m c main_arg11 (by decide)]
    rfl
  rw [e]
  pointwise

/-! A whole array staged as one block is the array. -/

theorem st0_0 (V : Vals Ideal) : s0_0 V c = V c main_v0 :=
  Memref.read_access_unit_zero (Elt Ideal) main_v0 (funext fun a => by fin_cases a <;> decide) (fun a => by fin_cases a <;> decide) _
theorem st0_1 (V : Vals Ideal) : s0_1 V c = V c main_arg4 :=
  Memref.read_access_unit_zero (Elt Ideal) main_arg4 (funext fun a => by fin_cases a <;> decide) (fun a => by fin_cases a <;> decide) _
theorem st0_2 (V : Vals Ideal) : s0_2 V c = V c main_v2 :=
  Memref.read_access_unit_zero (Elt Ideal) main_v2 (funext fun a => by fin_cases a <;> decide) (fun a => by fin_cases a <;> decide) _
theorem st0_3 (V : Vals Ideal) : s0_3 V c = V c main_v3 :=
  Memref.read_access_unit_zero (Elt Ideal) main_v3 (funext fun a => by fin_cases a <;> decide) (fun a => by fin_cases a <;> decide) _
theorem st0_4 (V : Vals Ideal) : s0_4 V c = V c main_v4 :=
  Memref.read_access_unit_zero (Elt Ideal) main_v4 (funext fun a => by fin_cases a <;> decide) (fun a => by fin_cases a <;> decide) _
theorem st1_0 (V : Vals Ideal) : s1_0 V c = V c main_v6 :=
  Memref.read_access_unit_zero (Elt Ideal) main_v6 (funext fun a => by fin_cases a <;> decide) (fun a => by fin_cases a <;> decide) _
theorem st1_1 (V : Vals Ideal) : s1_1 V c = V c main_v5_0 :=
  Memref.read_access_unit_zero (Elt Ideal) main_v5_0 (funext fun a => by fin_cases a <;> decide) (fun a => by fin_cases a <;> decide) _
theorem st1_2 (V : Vals Ideal) : s1_2 V c = V c main_v5_1 :=
  Memref.read_access_unit_zero (Elt Ideal) main_v5_1 (funext fun a => by fin_cases a <;> decide) (fun a => by fin_cases a <;> decide) _
theorem st1_3 (V : Vals Ideal) : s1_3 V c = V c main_v5_2 :=
  Memref.read_access_unit_zero (Elt Ideal) main_v5_2 (funext fun a => by fin_cases a <;> decide) (fun a => by fin_cases a <;> decide) _
theorem st1_4 (V : Vals Ideal) : s1_4 V c = V c main_v5_3 :=
  Memref.read_access_unit_zero (Elt Ideal) main_v5_3 (funext fun a => by fin_cases a <;> decide) (fun a => by fin_cases a <;> decide) _
theorem st1_5 (V : Vals Ideal) : s1_5 V c = V c main_v5_4 :=
  Memref.read_access_unit_zero (Elt Ideal) main_v5_4 (funext fun a => by fin_cases a <;> decide) (fun a => by fin_cases a <;> decide) _
theorem st1_6 (V : Vals Ideal) : s1_6 V c = V c main_v7 :=
  Memref.read_access_unit_zero (Elt Ideal) main_v7 (funext fun a => by fin_cases a <;> decide) (fun a => by fin_cases a <;> decide) _
theorem st1_7 (V : Vals Ideal) : s1_7 V c = V c main_v8 :=
  Memref.read_access_unit_zero (Elt Ideal) main_v8 (funext fun a => by fin_cases a <;> decide) (fun a => by fin_cases a <;> decide) _
theorem st1_8 (V : Vals Ideal) : s1_8 V c = V c main_arg8 :=
  Memref.read_access_unit_zero (Elt Ideal) main_arg8 (funext fun a => by fin_cases a <;> decide) (fun a => by fin_cases a <;> decide) _
theorem st1_9 (V : Vals Ideal) : s1_9 V c = V c main_v9 :=
  Memref.read_access_unit_zero (Elt Ideal) main_v9 (funext fun a => by fin_cases a <;> decide) (fun a => by fin_cases a <;> decide) _
theorem st1_10 (V : Vals Ideal) : s1_10 V c = V c main_v10 :=
  Memref.read_access_unit_zero (Elt Ideal) main_v10 (funext fun a => by fin_cases a <;> decide) (fun a => by fin_cases a <;> decide) _
theorem st1_11 (V : Vals Ideal) : s1_11 V c = V c main_v11 :=
  Memref.read_access_unit_zero (Elt Ideal) main_v11 (funext fun a => by fin_cases a <;> decide) (fun a => by fin_cases a <;> decide) _

/-! A result the first launch writes back whole is what its body left. -/

theorem out0_5 (V : Vals Ideal) : (dat0 V c).arrAt 5 cfg0.N = (run0 V c).1 := by
  have h : ((cfg0.win 5).blk t0_0).view.read (Elt Ideal) ((dat0 V c).arrAt 5 cfg0.N) = (dat0 V c).flushed 5 t0_0 := by
    rw [show cfg0.N = (t0_0 : Fin cfg0.N).val + 1 from rfl, (dat0 V c).arrAt_succ 5 t0_0, show (cfg0.win 5).flush t0_0 = true from by decide, if_pos rfl]
    exact View.read_write_univ _ _
  exact (Memref.read_access_unit_zero (Elt Ideal) main_v5_0 (funext fun a => by fin_cases a <;> decide) (fun a => by fin_cases a <;> decide) _).symm.trans h
theorem out0_6 (V : Vals Ideal) : (dat0 V c).arrAt 6 cfg0.N = (run0 V c).2.1 := by
  have h : ((cfg0.win 6).blk t0_0).view.read (Elt Ideal) ((dat0 V c).arrAt 6 cfg0.N) = (dat0 V c).flushed 6 t0_0 := by
    rw [show cfg0.N = (t0_0 : Fin cfg0.N).val + 1 from rfl, (dat0 V c).arrAt_succ 6 t0_0, show (cfg0.win 6).flush t0_0 = true from by decide, if_pos rfl]
    exact View.read_write_univ _ _
  exact (Memref.read_access_unit_zero (Elt Ideal) main_v5_1 (funext fun a => by fin_cases a <;> decide) (fun a => by fin_cases a <;> decide) _).symm.trans h
theorem out0_7 (V : Vals Ideal) : (dat0 V c).arrAt 7 cfg0.N = (run0 V c).2.2.1 := by
  have h : ((cfg0.win 7).blk t0_0).view.read (Elt Ideal) ((dat0 V c).arrAt 7 cfg0.N) = (dat0 V c).flushed 7 t0_0 := by
    rw [show cfg0.N = (t0_0 : Fin cfg0.N).val + 1 from rfl, (dat0 V c).arrAt_succ 7 t0_0, show (cfg0.win 7).flush t0_0 = true from by decide, if_pos rfl]
    exact View.read_write_univ _ _
  exact (Memref.read_access_unit_zero (Elt Ideal) main_v5_2 (funext fun a => by fin_cases a <;> decide) (fun a => by fin_cases a <;> decide) _).symm.trans h
theorem out0_8 (V : Vals Ideal) : (dat0 V c).arrAt 8 cfg0.N = (run0 V c).2.2.2.1 := by
  have h : ((cfg0.win 8).blk t0_0).view.read (Elt Ideal) ((dat0 V c).arrAt 8 cfg0.N) = (dat0 V c).flushed 8 t0_0 := by
    rw [show cfg0.N = (t0_0 : Fin cfg0.N).val + 1 from rfl, (dat0 V c).arrAt_succ 8 t0_0, show (cfg0.win 8).flush t0_0 = true from by decide, if_pos rfl]
    exact View.read_write_univ _ _
  exact (Memref.read_access_unit_zero (Elt Ideal) main_v5_3 (funext fun a => by fin_cases a <;> decide) (fun a => by fin_cases a <;> decide) _).symm.trans h
theorem out0_9 (V : Vals Ideal) : (dat0 V c).arrAt 9 cfg0.N = (run0 V c).2.2.2.2.1 := by
  have h : ((cfg0.win 9).blk t0_0).view.read (Elt Ideal) ((dat0 V c).arrAt 9 cfg0.N) = (dat0 V c).flushed 9 t0_0 := by
    rw [show cfg0.N = (t0_0 : Fin cfg0.N).val + 1 from rfl, (dat0 V c).arrAt_succ 9 t0_0, show (cfg0.win 9).flush t0_0 = true from by decide, if_pos rfl]
    exact View.read_write_univ _ _
  exact (Memref.read_access_unit_zero (Elt Ideal) main_v5_4 (funext fun a => by fin_cases a <;> decide) (fun a => by fin_cases a <;> decide) _).symm.trans h

end Cert.Proof.V

end
-- ==== Proof.V.Layer1.lean ====
/-
  The first layer's block, at an index, from the inputs as numbers.
-/
module

public import proofs.«01_k».proof.Proof.V.Model
public import proofs.«01_k».proof.Proof.V.Host

@[expose] public section

set_option maxRecDepth 65536
set_option maxHeartbeats 1000000

noncomputable section

namespace Cert.Proof.V

open Cert.KernelIdeal Cert.KernelIdeal.Gen
open Idealize.ShloMosaic
open Idealize.ShloMosaic.TcCoe
open Cert.Proof.KI

/-- Whether a row's entry is a line, as a number. -/
theorem flag_coe (a b : EReal) (p : Prop) [Decidable p] (h : a = b ↔ p) :
    (FloatOps.sitofp (F := Ideal) .f32 (BitVec.setWidth 32 (BitVec.ofBool (decide (a = b)))) : EReal) = ((if p then (1 : ℝ) else 0 : ℝ) : EReal) := by
  show (((BitVec.setWidth 32 (BitVec.ofBool (decide (a = b)))).toInt : ℝ) : EReal) = _
  by_cases hp : p
  · rw [if_pos hp, decide_eq_true (h.2 hp), show (BitVec.setWidth 32 (BitVec.ofBool true)).toInt = 1 by decide +kernel]; norm_num
  · rw [if_neg hp, decide_eq_false (fun e => hp (h.1 e))]; norm_num

/-- A block of the first layer at an index, its operands being numbers. -/
theorem block_apply (xb : Vec Ideal S2048x79 .bf16) (g : Vec Ideal S16x256 .f32) (lv : Vec Ideal S1x256 .f32) (P : Vec Ideal S256x512 .f32)
    (mm : Vec Ideal S64x512 .f32) (b : Vec Ideal S1x512 .f32) (r : Fin 2048) (n : Fin 512) (K : Fin 16 → ℕ) (N : Fin 63 → ℝ) (PR : Fin 256 → ℝ) (MR : Fin 63 → ℝ) (BR : EReal)
    (hx : ∀ (f : Fin 16) (h : f.val < 79), (xb : S2048x79.Idx → EReal) (ix2 r (⟨f.val, h⟩ : Fin 79)) = (((K f : ℕ) : ℝ) : EReal))
    (hn : ∀ (j : Fin 63) (h : 16 + j.val < 79), (xb : S2048x79.Idx → EReal) (ix2 r (⟨16 + j.val, h⟩ : Fin 79)) = ((N j : ℝ) : EReal))
    (hg : ∀ (k : Fin 16) (l : Fin 256), (g : S16x256.Idx → EReal) (ix2 k l) = (((if k = fieldOf l.val then 1 else 0 : ℤ) : ℝ) : EReal))
    (hl : ∀ l : Fin 256, (lv : S1x256.Idx → EReal) (ix2 0 l) = ((((l.val : ℤ) - (off (fieldOf l.val) : ℤ) : ℤ) : ℝ) : EReal))
    (hP : ∀ l : Fin 256, (P : S256x512.Idx → EReal) (ix2 l n) = ((PR l : ℝ) : EReal))
    (hm : ∀ (j : Fin 63) (h : j.val < 64), (mm : S64x512.Idx → EReal) (ix2 (⟨j.val, h⟩ : Fin 64) n) = ((MR j : ℝ) : EReal))
    (hb : (b : S1x512.Idx → EReal) (ix2 0 n) = BR) :
    k1_pay2 xb g lv P mm b (ix2 r n)
      = (((∑ l : Fin 256, (if l.val = off (fieldOf l.val) + K (fieldOf l.val) then (1 : ℝ) else 0) * PR l) + (∑ j, N j * MR j) : ℝ) : EReal) + BR := by
  have hs : ∀ l : Fin 256, ∑ k : Fin 16, ((((K k : ℕ) : ℝ) : EReal) * (((if k = fieldOf l.val then 1 else 0 : ℤ) : ℝ) : EReal)) = (((K (fieldOf l.val) : ℕ) : ℝ) : EReal) := fun l => by
    simp only [← EReal.coe_mul]
    rw [← coe_sum, Finset.sum_eq_single (fieldOf l.val)]
    · simp
    · intro k _ hk; simp [hk]
    · intro h; exact absurd (Finset.mem_univ _) h
  have hf : ∀ l : Fin 256, ((((K (fieldOf l.val) : ℕ) : ℝ) : EReal) = ((((l.val : ℤ) - (off (fieldOf l.val) : ℤ) : ℤ) : ℝ) : EReal) ↔ l.val = off (fieldOf l.val) + K (fieldOf l.val)) := fun l => by
    rw [EReal.coe_eq_coe_iff]
    constructor
    · intro h
      have : ((K (fieldOf l.val) : ℕ) : ℤ) = (l.val : ℤ) - (off (fieldOf l.val) : ℤ) := by exact_mod_cast h
      omega
    · intro h
      have : ((K (fieldOf l.val) : ℕ) : ℤ) = (l.val : ℤ) - (off (fieldOf l.val) : ℤ) := by omega
      exact_mod_cast this
  pointwise [k1_pay2, k1_pay1]
  have ez : ∀ z : EReal, ∑ _x : Fin 1, (0 : EReal) * z = 0 := fun z => by simp
  rw [EReal.coe_add, coe_sum, coe_sum]
  refine congrArg₂ (· + ·) (congrArg₂ (· + ·) (Finset.sum_congr rfl fun l _ => ?_) ?_) hb
  · rw [EReal.coe_mul]
    refine congrArg₂ (· * ·) (flag_coe _ _ _ ?_) (hP l)
    rw [hl l]
    refine Iff.trans (Eq.congr_left ?_) (hf l)
    exact (Finset.sum_congr rfl fun k _ => congrArg₂ (· * ·) (hx k _) (hg k l)).trans (hs l)
  · refine (congrArg₂ (· + ·) (Finset.sum_congr rfl fun j _ => ?_) (ez _)).trans (add_zero _)
    rw [EReal.coe_mul]
    exact congrArg₂ (· * ·) (hn j _) (hm j _)

end Cert.Proof.V
-- ==== Proof.V.Rows.lean ====
/-
  What the fused kernel's operands hold, as numbers, and so what the program leaves in its result.
-/
module

public import proofs.«01_k».proof.Proof.V.Layer1

@[expose] public section

set_option maxRecDepth 65536
set_option maxHeartbeats 1000000

noncomputable section

namespace Cert.Proof.V

open Cert.KernelIdeal Cert.KernelIdeal.Gen
open Idealize.ShloMosaic
open Idealize.ShloMosaic.TcCoe
open Cert.Proof.KI

/-! What the fused kernel loads, at an index. -/

section

variable (c : Dev nD)

theorem xblk_apply (X0 : S16384x79.Idx → EReal) (k : ℕ) (hk : k < 8) (r : Fin 2048) (l : Fin 79) :
    (xblk (F := Ideal) c X0 k : S2048x79.Idx → EReal) (ix2 r l) = X0 (ix2 (⟨2048 * k + r.val, by omega⟩ : Fin 16384) l) := by
  unfold xblk
  rw [dif_pos (show k < k1_t1_loop.trips from hk), View.readAt_apply]
  refine congrArg X0 (funext fun a => ?_)
  have h := off1_val ⟨k, hk⟩
  fin_cases a
  · exact Fin.ext (show k1_off1 ⟨k, hk⟩ 0 + 1 * r.val = 2048 * k + r.val by rw [h.1]; simp)
  · exact Fin.ext (show k1_off1 ⟨k, hk⟩ 1 + 1 * l.val = l.val by rw [h.2]; simp)

theorem rd1_eq (X) : rd1 (F := Ideal) c X = X := whole_read (Val := Elt Ideal) cc1_stg1_0 X ![0, 0] (by decide)
theorem rd2_eq (X) : rd2 (F := Ideal) c X = X := whole_read (Val := Elt Ideal) cc1_stg2_0 X ![0, 0] (by decide)
theorem rd4_eq (X) : rd4 (F := Ideal) c X = X := whole_read (Val := Elt Ideal) cc1_stg4_0 X ![0, 0] (by decide)
theorem rd6_eq (X) : rd6 (F := Ideal) c X = X := whole_read (Val := Elt Ideal) cc1_stg6_0 X ![0, 0] (by decide)
theorem rd7_eq (X) : rd7 (F := Ideal) c X = X := whole_read (Val := Elt Ideal) cc1_stg7_0 X ![0, 0] (by decide)
theorem rd8_eq (X) : rd8 (F := Ideal) c X = X := whole_read (Val := Elt Ideal) cc1_stg8_0 X ![0, 0] (by decide)
theorem rd9_eq (X) : rd9 (F := Ideal) c X = X := whole_read (Val := Elt Ideal) cc1_stg9_0 X ![0, 0] (by decide)
theorem rd10_eq (X) : rd10 (F := Ideal) c X = X := whole_read (Val := Elt Ideal) cc1_stg10_0 X ![0, 0] (by decide)
theorem rd11_eq (X) : rd11 (F := Ideal) c X = X := whole_read (Val := Elt Ideal) cc1_stg11_0 X ![0, 0] (by decide)

theorem rd3_apply (X : S8x512.Idx → EReal) (n : Fin 512) : (rd3 (F := Ideal) c X : S1x512.Idx → EReal) (ix2 0 n) = X (ix2 0 n) := by
  unfold rd3
  rw [View.readAt_apply]
  refine congrArg X (funext fun a => ?_)
  fin_cases a
  · rfl
  · exact Fin.ext (show 0 + 1 * n.val = n.val by omega)

theorem rd5_apply (X : S8x256.Idx → EReal) (n : Fin 256) : (rd5 (F := Ideal) c X : S1x256.Idx → EReal) (ix2 0 n) = X (ix2 0 n) := by
  unfold rd5
  rw [View.readAt_apply]
  refine congrArg X (funext fun a => ?_)
  fin_cases a
  · rfl
  · exact Fin.ext (show 0 + 1 * n.val = n.val by omega)

end

variable (m : (ℓ : Loc nD τ sig) → Buf (Elt Ideal) ℓ) (c : Dev nD)

/-! The tables the first launch leaves, from what it found. -/

abbrev t0 : S136x128.Idx → EReal := s0_0 (In0 m) c
abbrev t1 : S512x2176.Idx → EReal := s0_1 (In0 m) c
abbrev t2 : S64x128.Idx → EReal := s0_2 (In0 m) c
abbrev t3 : S1x128.Idx → EReal := s0_3 (In0 m) c
abbrev t4 : S1x512.Idx → EReal := s0_4 (In0 m) c

theorem op1 : (s1_1 (In1 m) c : S256x512.Idx → EReal) = tabP (t0 m c) (t1 m c) (t2 m c) (t3 m c) (t4 m c) c :=
  (st1_1 c (In1 m)).trans ((V7_of m (outs m) c main_v5_0 (by decide)).trans ((V6_outs m c).1.trans ((W6_eq m c).1.trans (out0_5 c (In0 m)))))
theorem op2 : (s1_2 (In1 m) c : S64x512.Idx → EReal) = tabM (t0 m c) (t1 m c) (t2 m c) (t3 m c) (t4 m c) c :=
  (st1_2 c (In1 m)).trans ((V7_of m (outs m) c main_v5_1 (by decide)).trans ((V6_outs m c).2.1.trans ((W6_eq m c).2.1.trans (out0_6 c (In0 m)))))
theorem op3 : (s1_3 (In1 m) c : S8x512.Idx → EReal) = tabB (t0 m c) (t1 m c) (t2 m c) (t3 m c) (t4 m c) c :=
  (st1_3 c (In1 m)).trans ((V7_of m (outs m) c main_v5_2 (by decide)).trans ((V6_outs m c).2.2.1.trans ((W6_eq m c).2.2.1.trans (out0_7 c (In0 m)))))
theorem op4 : (s1_4 (In1 m) c : S16x256.Idx → EReal) = tabG (t0 m c) (t1 m c) (t2 m c) (t3 m c) (t4 m c) c :=
  (st1_4 c (In1 m)).trans ((V7_of m (outs m) c main_v5_3 (by decide)).trans ((V6_outs m c).2.2.2.1.trans ((W6_eq m c).2.2.2.1.trans (out0_8 c (In0 m)))))
theorem op5 : (s1_5 (In1 m) c : S8x256.Idx → EReal) = tabV (t0 m c) (t1 m c) (t2 m c) (t3 m c) (t4 m c) c :=
  (st1_5 c (In1 m)).trans ((V7_of m (outs m) c main_v5_4 (by decide)).trans ((V6_outs m c).2.2.2.2.trans ((W6_eq m c).2.2.2.2.trans (out0_9 c (In0 m)))))

theorem op0 : (s1_0 (In1 m) c : S16384x79.Idx → EReal) = inX m c := (st1_0 c (In1 m)).trans (v6_eq m c)

/-- The program's arguments as numbers. -/
abbrev Nm := Nums (inX m c) (inT m c) (inWn m c) (inBn m c) (inW1 m c) (inB1 m c) (inG1 m c) (inBe1 m c) (inW2 m c) (inB2 m c) (inG2 m c)

variable {m c} (M : Nm m c)
include M

theorem t0_val (l : Fin 136) (x : Fin 128) : t0 m c (ix2 l x) = if l.val < 129 then ((M.T l.val x : ℝ) : EReal) else 0 := by
  have e : t0 m c (ix2 l x) = if h : l.val < 129 then inT m c (ix2 (⟨l.val, h⟩ : Fin 129) x) else 0 :=
    (congrFun (st0_0 c (In0 m)) _).trans (v0_apply m c l x)
  rw [e]
  by_cases h : l.val < 129
  · rw [dif_pos h, if_pos h]; exact M.t_val _ _
  · rw [dif_neg h, if_neg h]

theorem t1_val (n : Fin 512) (e : Fin 2176) : t1 m c (ix2 n e) = ((M.W1 n e.val : ℝ) : EReal) :=
  (congrFun ((st0_1 c (In0 m)).trans (arg5 m c main_arg4 (by decide))) _).trans (M.w1_val n e)

theorem t2_val (j : Fin 63) (h : j.val < 64) (x : Fin 128) : t2 m c (ix2 (⟨j.val, h⟩ : Fin 64) x) = ((M.WN x j : ℝ) : EReal) :=
  ((congrFun (st0_2 c (In0 m)) _).trans (v2_apply m c _ x)).trans ((dif_pos j.isLt).trans (M.wn_val x j))

omit M in
theorem t3_val (x : Fin 128) : t3 m c (ix2 0 x) = inBn m c (ix1 x) :=
  (congrFun (st0_3 c (In0 m)) _).trans (v3_apply m c x)

omit M in
theorem t4_val (n : Fin 512) : t4 m c (ix2 0 n) = inB1 m c (ix1 n) :=
  (congrFun (st0_4 c (In0 m)) _).trans (v4_apply m c n)

/-- A field's part of a line's entry in the per-line table. -/
abbrev lineQ (n : Fin 512) (f : Fin 16) (l : ℕ) : ℝ := ∑ d : Fin 128, M.T l d * M.W1 n (128 * f.val + d.val)

theorem op1_val (l : Fin 256) (n : Fin 512) : (s1_1 (In1 m) c : S256x512.Idx → EReal) (ix2 l n)
    = ((∑ f : Fin 16, if off f ≤ l.val ∧ l.val < off f + dims f then lineQ M n f l.val else 0 : ℝ) : EReal) := by
  refine Eq.trans (α := EReal) (congrFun (op1 m c) _) (Eq.trans (α := EReal) (prep_p ..) ?_)
  rw [coe_sum]
  by_cases h : l.val < 136
  · rw [dif_pos h]
    refine Finset.sum_congr rfl fun f _ => ?_
    by_cases hr : off f ≤ l.val ∧ l.val < off f + dims f
    · have := range_lt f
      rw [if_pos hr, if_pos hr, coe_sum]
      refine Finset.sum_congr rfl fun x _ => ?_
      rw [EReal.coe_mul]
      exact congrArg₂ (· * ·) ((t0_val M _ x).trans (if_pos (show l.val < 129 by omega))) (t1_val M n _)
    · rw [if_neg hr, if_neg hr]; rfl
  · rw [dif_neg h]
    refine (Finset.sum_eq_zero fun f _ => ?_).symm
    have := range_lt f
    rw [if_neg (by omega)]; rfl

theorem op2_val (j : Fin 63) (h : j.val < 64) (n : Fin 512) : (s1_2 (In1 m) c : S64x512.Idx → EReal) (ix2 (⟨j.val, h⟩ : Fin 64) n)
    = ((∑ d : Fin 128, M.WN d j * M.W1 n (2048 + d.val) : ℝ) : EReal) := by
  refine Eq.trans (α := EReal) (congrFun (op2 m c) _) (Eq.trans (α := EReal) (prep_m ..) ?_)
  rw [coe_sum]
  refine Finset.sum_congr rfl fun x _ => ?_
  rw [EReal.coe_mul]
  exact congrArg₂ (· * ·) (t2_val M j h x) (t1_val M n _)

theorem op3_val (n : Fin 512) : (s1_3 (In1 m) c : S8x512.Idx → EReal) (ix2 0 n)
    = M.bias n := by
  refine Eq.trans (α := EReal) (congrFun (op3 m c) _) (Eq.trans (α := EReal) (prep_b ..) ?_)
  exact congrArg₂ (· + ·) (t4_val n) (Finset.sum_congr rfl fun x _ => congrArg₂ (· * ·) (t3_val x) (t1_val M n _))

theorem rows1 : Rows1 c (s1_0 (In1 m) c) (s1_1 (In1 m) c) (s1_2 (In1 m) c) (s1_3 (In1 m) c) (s1_4 (In1 m) c) (s1_5 (In1 m) c) M.H1 M.bias := fun k hk r n => by
  have hx : ∀ l : Fin 79, (xblk (F := Ideal) c (s1_0 (In1 m) c) k : S2048x79.Idx → EReal) (ix2 r l) = inX m c (ix2 (⟨2048 * k + r.val, by omega⟩ : Fin 16384) l) := fun l =>
    (xblk_apply c (s1_0 (In1 m) c) k hk r l).trans (congrFun (op0 m c) _)
  refine (block_apply (xblk c (s1_0 (In1 m) c) k) (rd4 c (s1_4 (In1 m) c)) (rd5 c (s1_5 (In1 m) c)) (rd1 c (s1_1 (In1 m) c)) (rd2 c (s1_2 (In1 m) c)) (rd3 c (s1_3 (In1 m) c)) r n
    (M.K (2048 * k + r.val)) (M.N (2048 * k + r.val)) _ _ _ (fun f h => (hx _).trans (M.k_val ⟨2048 * k + r.val, by omega⟩ f h))
    (fun j h => (hx _).trans (M.n_val ⟨2048 * k + r.val, by omega⟩ j h))
    (fun k l => (congrFun ((rd4_eq c _).trans (op4 m c)) _).trans (prep_g ..)) (fun l => (rd5_apply c _ l).trans ((congrFun (op5 m c) _).trans (prep_v ..)))
    (fun l => (congrFun (rd1_eq c _) _).trans (op1_val M l n)) (fun j h => (congrFun (rd2_eq c _) _).trans (op2_val M j h n)) ((rd3_apply c _ n).trans (op3_val M n))).trans (congrArg (fun z : ℝ => (z : EReal) + M.bias n) ?_)
  rw [pick_lines (M.K (2048 * k + r.val)) (M.k_lt ⟨2048 * k + r.val, by omega⟩) (lineQ M n)]
  have e : ∑ j : Fin 63, M.N (2048 * k + r.val) j * ∑ d : Fin 128, M.WN d j * M.W1 n (2048 + d.val)
      = ∑ d : Fin 128, (∑ j : Fin 63, M.N (2048 * k + r.val) j * M.WN d j) * M.W1 n (2048 + d.val) := by
    simp only [Finset.mul_sum, Finset.sum_mul]
    rw [Finset.sum_comm]
    exact Finset.sum_congr rfl fun d _ => Finset.sum_congr rfl fun j _ => by ring
  rw [e]
  rfl

theorem ops2 : Ops2 c (s1_6 (In1 m) c) (s1_7 (In1 m) c) (s1_8 (In1 m) c) (s1_9 (In1 m) c) (s1_10 (In1 m) c) (s1_11 (In1 m) c)
    M.G1 (fun n => inBe1 m c (ix1 n)) M.W2 M.B2 M.G2 (fun n => inBe2 m c (ix1 n)) where
  g1 n := (congrFun ((rd6_eq c _).trans (st1_6 c (In1 m))) _).trans ((v7_apply m c n).trans (M.g1_val n))
  be1 n := (congrFun ((rd7_eq c _).trans (st1_7 c (In1 m))) _).trans (v8_apply m c n)
  be1_top := M.be1_top
  w2 n x := (congrFun ((rd8_eq c _).trans ((st1_8 c (In1 m)).trans (arg7 m c main_arg8 (by decide)))) _).trans (M.w2_val n x)
  b2 n := (congrFun ((rd9_eq c _).trans (st1_9 c (In1 m))) _).trans ((v9_apply m c n).trans (M.b2_val n))
  g2 n := (congrFun ((rd10_eq c _).trans (st1_10 c (In1 m))) _).trans ((v10_apply m c n).trans (M.g2_val n))
  be2 n := (congrFun ((rd11_eq c _).trans (st1_11 c (In1 m))) _).trans (v11_apply m c n)

/-- What the program leaves in its result, at an index. -/
theorem result_apply (r : Fin 16384) (n : Fin 256) : (result m c : S16384x256.Idx → EReal) (ix2 r n) = M.out (inBe2 m c) r n := by
  obtain ⟨d, hd⟩ := layer2_shift M.H1 M.bias M.G1 (fun n => inBe1 m c (ix1 n)) M.W2 M.B2 n
  exact (fusedOut_apply (rows1 M) (ops2 M) r n).trans (outE_shift _ M.H2 M.G2 _ n d hd r)

end Cert.Proof.V

end
-- ==== Proof.V.Ref.lean ====
/-
  The reference's result at an index, from the inputs as numbers.
-/
module

public import proofs.«01_k».proof.Proof.Gen.ReferenceIdeal.Run
public import proofs.«01_k».proof.Proof.V.Model

@[expose] public section

set_option maxRecDepth 65536
set_option maxHeartbeats 1000000

noncomputable section

namespace Cert.Proof.V.R

open Cert.ReferenceIdeal Cert.ReferenceIdeal.Gen Cert.ReferenceIdeal.Value
open Idealize.ShloMosaic
open Cert.Proof.V

/-! The line a field names: its own number past its range's start, never outside the table. -/

theorem off_lit : ∀ f : Fin 16, lit0 (S16.rowMajor (ix1 f)) = BitVec.ofNat 32 (off f) := by decide +kernel

/-- A line's number as the reference tests and wraps it. -/
theorem line_tests : ∀ l : Fin 129,
    Scalar.select (IntOp.cmpi CmpIPredicate.slt (BitVec.ofNat 32 l.val) 0#32) (IntOp.addi (BitVec.ofNat 32 l.val) 129#32) (BitVec.ofNat 32 l.val) = BitVec.ofNat 32 l.val
    ∧ IntOp.andi (IntOp.cmpi CmpIPredicate.sge (BitVec.ofNat 32 l.val) 0#32) (IntOp.cmpi CmpIPredicate.sle (BitVec.ofNat 32 l.val) 128#32) = 1#1
    ∧ min (BitVec.ofNat 32 l.val).toInt.toNat 128 = l.val := by decide +kernel

/-- The reference's look-up of a line, at an index. -/
theorem look_up (x : S129x128.Idx → EReal) (idx : IVec S16384x16x1 32) (r : Fin 16384) (f : Fin 16) (d : Fin 128) (l : Fin 129)
    (h : idx (ix3 r f 0) = BitVec.ofNat 32 l.val) :
    Host.gather gather_S129x128_S16384x16x1_S16384x16x128_2_0_n_n_0_2_1128 x idx (ix3 r f d) = x (ix2 l d) := by
  unfold Host.gather
  refine congrArg x (funext fun a => Fin.ext ?_)
  fin_cases a
  · show GatherDims.start _ (ix3 r f d) idx 0 + GatherDims.batchCoord _ (ix3 r f d) 0 + GatherDims.offCoord _ (ix3 r f d) 0 = l.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S129x128_S16384x16x1_S16384x16x128_2_0_n_n_0_2_1128.startIndexMap from List.mem_singleton.mpr rfl)]
    have e : gather_S129x128_S16384x16x1_S16384x16x128_2_0_n_n_0_2_1128.siIdx (ix3 r f d) ⟨List.idxOf (0 : Fin 2) gather_S129x128_S16384x16x1_S16384x16x128_2_0_n_n_0_2_1128.startIndexMap,
        List.idxOf_lt_length_iff.2 (List.mem_singleton.mpr rfl)⟩ = ix3 r f 0 := by
      funext b
      refine Fin.ext ?_
      fin_cases b <;> rfl
    rw [e, h]
    exact (line_tests l).2.2
  · show GatherDims.start _ (ix3 r f d) idx 1 + GatherDims.batchCoord _ (ix3 r f d) 1 + GatherDims.offCoord _ (ix3 r f d) 1 = d.val
    rw [GatherDims.batchCoord_eq_zero _ _ _ List.not_mem_nil]
    unfold GatherDims.start
    rw [dif_neg (show (1 : Fin 2) ∉ gather_S129x128_S16384x16x1_S16384x16x128_2_0_n_n_0_2_1128.startIndexMap from by decide), Nat.zero_add]
    rfl

variable {V : Valuation τ sig (Elt Ideal)}

/-- The reference's arguments as numbers. -/
abbrev VN (V : Valuation τ sig (Elt Ideal)) := Nums (V (Proc.devRef .tc main_arg0)) (V (Proc.devRef .tc main_arg1)) (V (Proc.devRef .tc main_arg2)) (V (Proc.devRef .tc main_arg3))
  (V (Proc.devRef .tc main_arg4)) (V (Proc.devRef .tc main_arg5)) (V (Proc.devRef .tc main_arg6)) (V (Proc.devRef .tc main_arg7)) (V (Proc.devRef .tc main_arg8))
  (V (Proc.devRef .tc main_arg9)) (V (Proc.devRef .tc main_arg10))

variable (M : VN V)
include M

theorem line_lt (r : Fin 16384) (f : Fin 16) : off f + M.K r.val f < 129 := by
  have := range_lt f
  have := M.k_lt r f
  omega

theorem line_raw (r : Fin 16384) (f : Fin 16) : (res_main_v4 (F := Ideal) V) (ix2 r f) = BitVec.ofNat 32 (off f + M.K r.val f) := by
  pointwise [res_main_v4]
  refine (congrArg₂ IntOp.addi (M.k_int r f _) (off_lit f)).trans ?_
  rw [Nat.add_comm, BitVec.ofNat_add]
  rfl

theorem line_val (r : Fin 16384) (f : Fin 16) : (res_main_call0_v5 (F := Ideal) V) (ix3 r f 0) = BitVec.ofNat 32 (off f + M.K r.val f) := by
  pointwise [res_main_call0_v5]
  rw [line_raw M]
  exact (line_tests ⟨_, line_lt M r f⟩).1

/-- Every line named is in the table. -/
theorem line_ok (i : S16384x16x1.Idx) :
    IntOp.andi (IntOp.cmpi CmpIPredicate.sge (res_main_call0_v5 (F := Ideal) V i) 0#32) (IntOp.cmpi CmpIPredicate.sle (res_main_call0_v5 (F := Ideal) V i) 128#32) = 1#1 := by
  obtain ⟨r, f, rfl⟩ : ∃ (r : Fin 16384) (f : Fin 16), i = ix3 r f 0 := ⟨i 0, i 1, by
    refine (eq_ix3 i).trans ?_
    exact congrArg (fun z => ix3 (i 0) (i 1) z) (Subsingleton.elim (α := Fin 1) (i 2) 0)⟩
  rw [line_val M]
  exact (line_tests ⟨_, line_lt M r f⟩).2.1

omit M in
theorem all_ok {ι : Type*} (s : Finset ι) (g : ι → BitVec 1) (hg : ∀ i, g i = 1#1) : Finset.fold IntOp.andi (1#1) g s = 1#1 := by
  classical
  induction s using Finset.induction_on with
  | empty => rfl
  | insert a s ha ih => rw [Finset.fold_insert ha, ih, hg]; rfl

/-- The first layer's summand at a column of its weights, without the bias of the numerical embedding. -/
def term (r : Fin 16384) (n : Fin 512) (e : ℕ) : ℝ :=
  (if h : e / 128 < 16 then M.T (off ⟨e / 128, h⟩ + M.K r.val ⟨e / 128, h⟩) ⟨e % 128, Nat.mod_lt _ (by norm_num)⟩
    else ∑ j : Fin 63, M.N r.val j * M.WN ⟨e % 128, Nat.mod_lt _ (by norm_num)⟩ j) * M.W1 n e

theorem term_field (r : Fin 16384) (n : Fin 512) (f : Fin 16) (d : Fin 128) :
    term M r n (128 * f.val + d.val) = M.T (off f + M.K r.val f) d * M.W1 n (128 * f.val + d.val) := by
  have h1 : (128 * f.val + d.val) / 128 = f.val := by omega
  have h2 : (128 * f.val + d.val) % 128 = d.val := by omega
  unfold term
  simp only [h1, h2]
  rw [dif_pos f.isLt]

theorem term_num (r : Fin 16384) (n : Fin 512) (d : Fin 128) :
    term M r n (128 * 16 + d.val) = (∑ j : Fin 63, M.N r.val j * M.WN d j) * M.W1 n (2048 + d.val) := by
  have h1 : (128 * 16 + d.val) / 128 = 16 := by omega
  have h2 : (128 * 16 + d.val) % 128 = d.val := by omega
  unfold term
  simp only [h1, h2]
  rw [dif_neg (by omega)]

theorem terms_sum (r : Fin 16384) (n : Fin 512) : ∑ e : Fin 2176, term M r n e.val = M.H1 r.val n := by
  rw [Fin.sum_univ_eq_sum_range (term M r n) 2176, show 2176 = 128 * 17 from rfl, ← sum_blocks 128 (term M r n) 17, Finset.sum_range_succ,
    ← Fin.sum_univ_eq_sum_range (fun k => ∑ d : Fin 128, term M r n (128 * k + d.val)) 16]
  simp only [term_field M, term_num M]
  rfl

omit M in
/-- The numerical embedding's bias and the first layer's. -/
abbrev biasN (V : Valuation τ sig (Elt Ideal)) : S128.Idx → EReal := V (Proc.devRef .tc main_arg3)

omit M in
abbrev biasF (V : Valuation τ sig (Elt Ideal)) : S512.Idx → EReal := V (Proc.devRef .tc main_arg5)

/-- What the bias of the numerical embedding adds to a summand. -/
def lift (n : Fin 512) (e : ℕ) : EReal :=
  if e / 128 < 16 then 0 else biasN V (ix1 (⟨e % 128, Nat.mod_lt _ (by norm_num)⟩ : Fin 128)) * ((M.W1 n e : ℝ) : EReal)

theorem lifts_sum (n : Fin 512) : ∑ e : Fin 2176, lift M n e.val
    = ∑ d : Fin 128, biasN V (ix1 d) * ((M.W1 n (2048 + d.val) : ℝ) : EReal) := by
  rw [Fin.sum_univ_eq_sum_range (lift M n) 2176, show 2176 = 128 * 17 from rfl, ← sum_blocks 128 (lift M n) 17, Finset.sum_range_succ,
    Finset.sum_eq_zero, zero_add]
  · refine Finset.sum_congr rfl fun d _ => ?_
    have h1 : (128 * 16 + d.val) / 128 = 16 := by omega
    have h2 : (128 * 16 + d.val) % 128 = d.val := by omega
    unfold lift
    simp only [h1, h2]
    rw [if_neg (by omega)]
  · intro k hk
    refine Finset.sum_eq_zero fun d _ => ?_
    have := Finset.mem_range.mp hk
    unfold lift
    rw [if_pos (by omega)]

theorem h1_val (r : Fin 16384) (n : Fin 512) : (res_main_v19 (F := Ideal) V : S16384x512.Idx → EReal) (ix2 r n) = ((M.H1 r.val n : ℝ) : EReal) + M.bias n := by
  pointwise [res_main_v19]
  have eb : M.bias n = (∑ e : Fin 2176, lift M n e.val) + biasF V (ix1 n) := by
    rw [lifts_sum M n, add_comm]
    rfl
  rw [eb, ← terms_sum M r n, coe_sum, ← add_assoc, ← Finset.sum_add_distrib]
  refine congrArg₂ (· + ·) (Finset.sum_congr rfl fun e _ => ?_) rfl
  unfold term lift
  by_cases h : e.val / 128 < 16
  · rw [dif_pos h, dif_pos h, if_pos h, add_zero, EReal.coe_mul]
    refine congrArg₂ (· * ·) ?_ (M.w1_val n e)
    refine (congrArg (fun b => Scalar.select b _ _) (all_ok _ _ (line_ok M))).trans ?_
    refine (look_up _ _ r ⟨e.val / 128, h⟩ _ ⟨_, line_lt M r ⟨e.val / 128, h⟩⟩ (line_val M r _)).trans ?_
    exact M.t_val _ _
  · rw [dif_neg h, dif_neg h, if_neg h, ← shift_mul, coe_sum]
    refine congrArg₂ (· * ·) (congrArg₂ (· + ·) (Finset.sum_congr rfl fun j _ => ?_) rfl) (M.w1_val n e)
    rw [EReal.coe_mul]
    exact congrArg₂ (· * ·) (M.n_val r j _) (M.wn_val _ j)

/-! The normalisations. -/

omit M in
/-- A column's mean as the reference computes it. -/
theorem mean_div (h : Fin 16384 → ℝ) : Ideal.div (∑ r, ((h r : ℝ) : EReal)) (Ideal.ofBits FTy.f32 1182793728#32) = ((mean h : ℝ) : EReal) := by
  rw [ofBits_count, div_count, ← coe_sum, mean_eq]

omit M in
theorem var_div (h : Fin 16384 → ℝ) (N : EReal) (hN : N = ((16384 : ℝ) : EReal)) (z : EReal) :
    (if 0 < N then Ideal.div (∑ r, ((h r - mean h : ℝ) : EReal) * ((h r - mean h : ℝ) : EReal)) N else z) = ((var h : ℝ) : EReal) := by
  rw [hN, if_pos (by norm_num), div_count]
  simp only [← EReal.coe_mul]
  rw [← coe_sum, ← EReal.coe_mul]
  rfl

omit M in
/-- The division by the count, as the reference guards it. -/
theorem over_count (S N : EReal) (hN : N = ((16384 : ℝ) : EReal)) (z : EReal) : (if 0 < N then Ideal.div S N else z) = S * ((1 / 16384 : ℝ) : EReal) := by
  rw [hN, if_pos (by norm_num), div_count]

omit M in
theorem zero_int : (FloatOps.sitofp (F := Ideal) .f32 (0#32 : BitVec 32) : EReal) = 0 := by
  show (((0#32 : BitVec 32).toInt : ℝ) : EReal) = 0
  simp

omit M in
theorem count_sub : Ideal.ofBits .f32 1182793728#32 - (FloatOps.sitofp (F := Ideal) .f32 (0#32 : BitVec 32) : EReal) = ((16384 : ℝ) : EReal) := by
  rw [ofBits_count, zero_int, sub_zero]

omit M in
theorem count1 : (res_main_call1_v8 (F := Ideal) V : S_.Idx → EReal) ix0 = ((16384 : ℝ) : EReal) := by
  pointwise [res_main_call1_v8]
  exact count_sub

theorem dev1 (r : Fin 16384) (n : Fin 512) : (res_main_call1_v5 (F := Ideal) V : S16384x512.Idx → EReal) (ix2 r n)
    = (((M.H1 r.val n : ℝ) : EReal) + M.bias n) - (∑ r : Fin 16384, (((M.H1 r.val n : ℝ) : EReal) + M.bias n)) * ((1 / 16384 : ℝ) : EReal) := by
  pointwise [res_main_call1_v5]
  simp only [h1_val M]
  rw [ofBits_count, div_count]

theorem h2_val (r : Fin 16384) (n : Fin 256) : (res_main_v43 (F := Ideal) V : S16384x256.Idx → EReal) (ix2 r n)
    = ((M.H2 r n : ℝ) : EReal) := by
  pointwise [res_main_v43]
  simp only [h1_val M, dev1 M]
  unfold Nums.H2 layer2 actsR
  rw [EReal.coe_add, coe_sum]
  refine congrArg₂ (· + ·) (Finset.sum_congr rfl fun x _ => ?_) (M.b2_val n)
  rw [EReal.coe_mul, ← rectR_val _ _ (M.be1_top x), over_count _ _ count1, ofBits_eps, ofBits_count, div_count]
  exact congrArg₂ (· * ·) (congrArg (max · 0) (congrArg₂ (· + ·) (congrArg (fun g => Ideal.div (g * _) _) (M.g1_val x)) rfl)) (M.w2_val n x)

omit M in
theorem count2 : (res_main_call3_v8 (F := Ideal) V : S_.Idx → EReal) ix0 = ((16384 : ℝ) : EReal) := by
  pointwise [res_main_call3_v8]
  exact count_sub

theorem dev2 (r : Fin 16384) (n : Fin 256) : (res_main_call3_v5 (F := Ideal) V : S16384x256.Idx → EReal) (ix2 r n)
    = ((M.H2 r n - mean (fun r : Fin 16384 => M.H2 r n) : ℝ) : EReal) := by
  pointwise [res_main_call3_v5]
  simp only [h2_val M]
  rw [mean_div, EReal.coe_sub]

end Cert.Proof.V.R

end
-- ==== Proof.V.Pre.lean ====
/-
  The precondition read back: the fields name lines of their tables, the other entries it restricts are numbers, and
  the first shift is not the top.
-/
module

public import proofs.«01_k».proof.Pre_fields_in_range
public import proofs.«01_k».proof.Proof.V.Model

@[expose] public section

set_option maxRecDepth 65536
set_option maxHeartbeats 1000000

noncomputable section

namespace Cert.Proof.V

open Cert.KernelIdeal
open Idealize.ShloMosaic

/-- The side conditions of the precondition's operations. -/
theorem preFacts : Cert.Pre_fields_in_range.Facts where
  slices_S16384x79_S16384x16_0_0 := by decide
  bcast_S_S16384x16 := by decide
  bcast_S16_S1x16_1 := by decide
  bcast_S1x16_S16384x16_0_1 := by decide
  slices_S16384x79_S16384x63_0_16 := by decide
  bcast_S_S16384x63 := by decide
  bcast_S_S129x128 := by decide
  bcast_S_S128x63 := by decide
  bcast_S_S512x2176 := by decide
  bcast_S_S512 := by decide
  bcast_S_S256x512 := by decide
  bcast_S_S256 := by decide

attribute [local instance] preFacts

variable (a0 : S16384x79.Idx → EReal) (a1 : S129x128.Idx → EReal) (a2 : S128x63.Idx → EReal) (a3 : S128.Idx → EReal)
    (a4 : S512x2176.Idx → EReal) (a5 a6 a7 : S512.Idx → EReal) (a8 : S256x512.Idx → EReal) (a9 a10 a11 : S256.Idx → EReal)

abbrev pre := Cert.Pre_fields_in_range.fn (F := Ideal) a0 a1 a2 a3 a4 a5 a6 a7 a8 a9 a10 a11

/-- A number whose magnitude is below the top is a real number. -/
theorem real_of_flag (x : EReal) (h : Ideal.cmp .olt (max x (-x)) (Ideal.ofBits .f32 0x7F800000#32) = 1#1) : ((x.toReal : ℝ) : EReal) = x := by
  have ht : Ideal.ofBits .f32 0x7F800000#32 = ⊤ := by simp [Ideal.ofBits, Ideal.ieee]
  rw [ht] at h
  have hl : max x (-x) < ⊤ := by
    by_contra hn
    simp [Ideal.cmp, hn] at h
  refine EReal.coe_toReal (fun e => ?_) (fun e => ?_)
  · rw [e] at hl; simp at hl
  · rw [e] at hl; simp at hl

/-- The same of a vector's entries. -/
theorem real_of_flags {s : Shape} (a : s.Idx → EReal) {hb}
    (h : cmpf .olt (Host.absf (F := Ideal) (φ := .f32) a) (broadcastInDim s ![] hb (constant (F := Ideal) Cert.Pre_fields_in_range.S_ .f32 0x7F800000#32)) = fun _ => 1#1) (i : s.Idx) :
    a i = (((a i).toReal : ℝ) : EReal) :=
  (real_of_flag (a i) (congrFun h i)).symm

/-- An entry that is below the top. -/
theorem below_top {s : Shape} (a : s.Idx → EReal) {hb}
    (h : cmpf (F := Ideal) (φ := .f32) .olt a (broadcastInDim s ![] hb (constant (F := Ideal) Cert.Pre_fields_in_range.S_ .f32 0x7F800000#32)) = fun _ => 1#1) (i : s.Idx) :
    a i ≠ ⊤ := fun e => by
  have ht : Ideal.ofBits .f32 0x7F800000#32 = ⊤ := by simp [Ideal.ofBits, Ideal.ieee]
  have h1 : Ideal.cmp .olt (a i) (Ideal.ofBits .f32 0x7F800000#32) = 1#1 := congrFun h i
  rw [ht, e] at h1
  simp [Ideal.cmp] at h1

theorem both_flags : ∀ x y : BitVec 1, IntOp.andi x y = 1#1 → x = 1#1 ∧ y = 1#1 := by decide

theorem dims_lit : ∀ f : Fin 16, Cert.Pre_fields_in_range.lit0 (Cert.Pre_fields_in_range.S16.rowMajor (ix1 f)) = BitVec.ofNat 32 (dims f) := by
  decide +kernel

/-- An integer between two tests is a natural number below the bound. -/
theorem nat_of_flags (k : BitVec 32) (d : ℕ) (hd : d < 1000) (h0 : IntOp.cmpi .sge k 0#32 = 1#1) (h1 : IntOp.cmpi .slt k (BitVec.ofNat 32 d) = 1#1) :
    k.toNat < d ∧ k.toInt = (k.toNat : ℤ) := by
  have e0 : 0 ≤ k.toInt := by
    by_contra hn
    simp [IntOp.cmpi, BitVec.sle, hn] at h0
  have ed : (BitVec.ofNat 32 d).toInt = (d : ℤ) := by
    rw [BitVec.toInt_eq_toNat_of_lt] <;> simp <;> omega
  have e1 : k.toInt < (d : ℤ) := by
    by_contra hn
    rw [← ed] at hn
    simp [IntOp.cmpi, BitVec.slt, hn] at h1
  have e2 : k.toInt = (k.toNat : ℤ) := by
    rw [BitVec.toInt_eq_toNat_cond] at e0 ⊢
    split
    · rfl
    · rename_i hh; rw [if_neg hh] at e0; have := k.isLt; omega
  exact ⟨by omega, e2⟩

theorem dims_small : ∀ f : Fin 16, dims f < 1000 := by decide

variable {a0 a1 a2 a3 a4 a5 a6 a7 a8 a9 a10 a11}

theorem field_flags (h : (pre a0 a1 a2 a3 a4 a5 a6 a7 a8 a9 a10 a11).1 = fun _ => 1#1) (r : Fin 16384) (f : Fin 16) (hf : f.val < 79) :
    (Ideal.fptosi 32 (a0 (ix2 r (⟨f.val, hf⟩ : Fin 79)))).toNat < dims f
    ∧ a0 (ix2 r (⟨f.val, hf⟩ : Fin 79)) = ((((Ideal.fptosi 32 (a0 (ix2 r (⟨f.val, hf⟩ : Fin 79)))).toNat : ℕ) : ℝ) : EReal) := by
  have e := congrFun h (ix2 r f)
  simp only [pre, Cert.Pre_fields_in_range.fn, Cert.Pre_fields_in_range.fn_part1, Cert.Pre_fields_in_range.fn_part2] at e
  revert e
  pointwise
  intro e
  obtain ⟨e1, e2⟩ := both_flags _ _ e
  obtain ⟨e3, e4⟩ := both_flags _ _ e1
  rw [dims_lit] at e4
  obtain ⟨h1, h2⟩ := nat_of_flags _ _ (dims_small f) e3 e4
  refine ⟨h1, ?_⟩
  have e5 : ((((Ideal.fptosi 32 (a0 (ix2 r (⟨f.val, hf⟩ : Fin 79)))).toInt : ℤ) : ℝ) : EReal) = a0 (ix2 r (⟨f.val, hf⟩ : Fin 79)) := by
    by_contra hn
    have := e2.symm.trans (congrArg BitVec.ofBool (decide_eq_false hn))
    exact absurd this (by decide)
  refine e5.symm.trans ?_
  have h3 : (Ideal.fptosi 32 (a0 (ix2 r (⟨f.val, hf⟩ : Fin 79)))).toInt = (((Ideal.fptosi 32 (a0 (ix2 r (⟨f.val, hf⟩ : Fin 79)))).toNat : ℕ) : ℤ) := h2
  rw [h3, Int.cast_natCast]

theorem num_flags (h : (pre a0 a1 a2 a3 a4 a5 a6 a7 a8 a9 a10 a11).2.1 = fun _ => 1#1) (r : Fin 16384) (j : Fin 63) (hj : 16 + j.val < 79) :
    a0 (ix2 r (⟨16 + j.val, hj⟩ : Fin 79)) = (((a0 (ix2 r (⟨16 + j.val, hj⟩ : Fin 79))).toReal : ℝ) : EReal) := by
  have e := real_of_flags (s := Cert.Pre_fields_in_range.S16384x63) _ h (ix2 r j)
  revert e
  pointwise
  exact id

/-- Under the precondition the arguments are numbers. -/
def nums (h : (pre a0 a1 a2 a3 a4 a5 a6 a7 a8 a9 a10 a11).1 = (fun _ => 1#1) ∧ (pre a0 a1 a2 a3 a4 a5 a6 a7 a8 a9 a10 a11).2.1 = (fun _ => 1#1)
    ∧ (pre a0 a1 a2 a3 a4 a5 a6 a7 a8 a9 a10 a11).2.2.1 = (fun _ => 1#1) ∧ (pre a0 a1 a2 a3 a4 a5 a6 a7 a8 a9 a10 a11).2.2.2.1 = (fun _ => 1#1)
    ∧ (pre a0 a1 a2 a3 a4 a5 a6 a7 a8 a9 a10 a11).2.2.2.2.1 = (fun _ => 1#1) ∧ (pre a0 a1 a2 a3 a4 a5 a6 a7 a8 a9 a10 a11).2.2.2.2.2.1 = (fun _ => 1#1)
    ∧ (pre a0 a1 a2 a3 a4 a5 a6 a7 a8 a9 a10 a11).2.2.2.2.2.2.1 = (fun _ => 1#1) ∧ (pre a0 a1 a2 a3 a4 a5 a6 a7 a8 a9 a10 a11).2.2.2.2.2.2.2.1 = (fun _ => 1#1)
    ∧ (pre a0 a1 a2 a3 a4 a5 a6 a7 a8 a9 a10 a11).2.2.2.2.2.2.2.2.1 = (fun _ => 1#1) ∧ (pre a0 a1 a2 a3 a4 a5 a6 a7 a8 a9 a10 a11).2.2.2.2.2.2.2.2.2 = (fun _ => 1#1)) :
    Nums a0 a1 a2 a3 a4 a5 a6 a7 a8 a9 a10 where
  K r f := (Ideal.fptosi 32 (if hr : r < 16384 then a0 (ix2 (⟨r, hr⟩ : Fin 16384) (⟨f.val, by omega⟩ : Fin 79)) else 0)).toNat
  N r j := (if hr : r < 16384 then a0 (ix2 (⟨r, hr⟩ : Fin 16384) (⟨16 + j.val, by omega⟩ : Fin 79)) else 0).toReal
  T l d := (if hl : l < 129 then a1 (ix2 (⟨l, hl⟩ : Fin 129) d) else 0).toReal
  WN d j := (a2 (ix2 d j)).toReal
  W1 n e := (if he : e < 2176 then a4 (ix2 n (⟨e, he⟩ : Fin 2176)) else 0).toReal
  G1 n := (a6 (ix1 n)).toReal
  W2 n x := (a8 (ix2 n x)).toReal
  B2 n := (a9 (ix1 n)).toReal
  G2 n := (a10 (ix1 n)).toReal
  k_lt r f := by rw [dif_pos r.isLt]; exact (field_flags h.1 r f _).1
  k_val r f hf := by rw [dif_pos r.isLt]; exact (field_flags h.1 r f hf).2
  k_int r f hf := by rw [dif_pos r.isLt]; exact ((BitVec.ofNat_toNat 32 _).trans (BitVec.setWidth_eq _)).symm
  n_val r j hj := by rw [dif_pos r.isLt]; exact num_flags h.2.1 r j hj
  t_val l d := by rw [dif_pos l.isLt]; exact real_of_flags a1 h.2.2.1 (ix2 l d)
  wn_val d j := real_of_flags a2 h.2.2.2.1 (ix2 d j)
  w1_val n e := by rw [dif_pos e.isLt]; exact real_of_flags a4 h.2.2.2.2.1 (ix2 n e)
  g1_val n := real_of_flags a6 h.2.2.2.2.2.1 (ix1 n)
  be1_top n := below_top a7 h.2.2.2.2.2.2.1 (ix1 n)
  w2_val n x := real_of_flags a8 h.2.2.2.2.2.2.2.1 (ix2 n x)
  b2_val n := real_of_flags a9 h.2.2.2.2.2.2.2.2.1 (ix1 n)
  g2_val n := real_of_flags a10 h.2.2.2.2.2.2.2.2.2 (ix1 n)

end Cert.Proof.V

end
-- ==== Proof.V.Alg.lean ====
/-
  The two programs over the reals leave the same result.
-/
module

public import proofs.«01_k».proof.Defs
public import proofs.«01_k».proof.Proof.V.Rows
public import proofs.«01_k».proof.Proof.V.Ref
public import proofs.«01_k».proof.Proof.V.Pre

@[expose] public section

set_option maxRecDepth 65536
set_option maxHeartbeats 1000000

noncomputable section

namespace Cert.Proof.V

open Idealize.ShloMosaic
open Cert.Proof.V.R

attribute [local instance] preFacts

/-- From memories holding the same arguments, the fields in their ranges and the other entries numbers, the kernel and
    the reference end with the same result. -/
theorem algebraic : Cert.algebraic_KernelIdeal_ReferenceIdeal_pre_fields_in_range := fun m g m' g' hpre hargs => by
  refine ⟨fun c => KI.result m c, (θ_run Cert.KernelIdeal.defs _ _).mono (fun _ h c => ⟨(h.1 c).1,
    (h.1 c).2 Cert.KernelIdeal.main_arg0 (by decide),
    (h.1 c).2 Cert.KernelIdeal.main_arg1 (by decide),
    (h.1 c).2 Cert.KernelIdeal.main_arg2 (by decide),
    (h.1 c).2 Cert.KernelIdeal.main_arg3 (by decide),
    (h.1 c).2 Cert.KernelIdeal.main_arg4 (by decide),
    (h.1 c).2 Cert.KernelIdeal.main_arg5 (by decide),
    (h.1 c).2 Cert.KernelIdeal.main_arg6 (by decide),
    (h.1 c).2 Cert.KernelIdeal.main_arg7 (by decide),
    (h.1 c).2 Cert.KernelIdeal.main_arg8 (by decide),
    (h.1 c).2 Cert.KernelIdeal.main_arg9 (by decide),
    (h.1 c).2 Cert.KernelIdeal.main_arg10 (by decide),
    (h.1 c).2 Cert.KernelIdeal.main_arg11 (by decide)⟩) (KI.run m g), (θ_run Cert.ReferenceIdeal.defs _ _).mono (fun _ h c => ⟨(h c).1.trans ?_, (h c).2⟩) (Cert.ReferenceIdeal.Value.run (F := Ideal) m' g')⟩
  obtain ⟨M, hM⟩ := (nums (hpre c)).same (hargs c)
  change VN (StableHlo.launchContents m' c) at M
  funext i
  obtain ⟨r, n, rfl⟩ : ∃ (r : Fin 16384) (n : Fin 256), i = ix2 r n := ⟨i 0, i 1, eq_ix2 i⟩
  refine Eq.trans ?_ (result_apply (nums (hpre c)) r n).symm
  rw [← hM]
  pointwise
  simp only [h2_val M, dev2 M]
  unfold Nums.out outE
  rw [← ref_bn, mean_div, var_div _ _ count2, ofBits_eps]
  exact congrArg (max · 0) (congrArg₂ (· + ·) (congrArg (fun g => Ideal.div (g * _) _) (M.g2_val n)) rfl)

end Cert.Proof.V

end
-- ==== Proof.lean ====
/-
  The proof of `Cert.Claim`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.V.Alg
public import Idealize.ShloMosaic.Adequacy
public import Idealize.ShloMosaic.Init

@[expose] public section

noncomputable section

namespace Cert.Proof

open Idealize.ShloMosaic Idealize.SL.Sem

/-- The kernel as printed runs, leaves its arguments and ends with every semaphore at zero. -/
theorem frame_p : Cert.quiescent_Kernel := fun m ρ _ =>
  (θ_run Cert.Kernel.defs _ _).mono (fun _ h => ⟨fun c => ⟨(h.1 c).2 Cert.Kernel.main_arg0 (by decide),
    (h.1 c).2 Cert.Kernel.main_arg1 (by decide),
    (h.1 c).2 Cert.Kernel.main_arg2 (by decide),
    (h.1 c).2 Cert.Kernel.main_arg3 (by decide),
    (h.1 c).2 Cert.Kernel.main_arg4 (by decide),
    (h.1 c).2 Cert.Kernel.main_arg5 (by decide),
    (h.1 c).2 Cert.Kernel.main_arg6 (by decide),
    (h.1 c).2 Cert.Kernel.main_arg7 (by decide),
    (h.1 c).2 Cert.Kernel.main_arg8 (by decide),
    (h.1 c).2 Cert.Kernel.main_arg9 (by decide),
    (h.1 c).2 Cert.Kernel.main_arg10 (by decide),
    (h.1 c).2 Cert.Kernel.main_arg11 (by decide)⟩, h.2⟩) (K.run m ρ)

/-- The kernel over the reals runs, leaves its arguments and ends with every semaphore at zero. -/
theorem frame_pi : Cert.quiescent_KernelIdeal := fun m ρ _ =>
  (θ_run Cert.KernelIdeal.defs _ _).mono (fun _ h => ⟨fun c => ⟨(h.1 c).2 Cert.KernelIdeal.main_arg0 (by decide),
    (h.1 c).2 Cert.KernelIdeal.main_arg1 (by decide),
    (h.1 c).2 Cert.KernelIdeal.main_arg2 (by decide),
    (h.1 c).2 Cert.KernelIdeal.main_arg3 (by decide),
    (h.1 c).2 Cert.KernelIdeal.main_arg4 (by decide),
    (h.1 c).2 Cert.KernelIdeal.main_arg5 (by decide),
    (h.1 c).2 Cert.KernelIdeal.main_arg6 (by decide),
    (h.1 c).2 Cert.KernelIdeal.main_arg7 (by decide),
    (h.1 c).2 Cert.KernelIdeal.main_arg8 (by decide),
    (h.1 c).2 Cert.KernelIdeal.main_arg9 (by decide),
    (h.1 c).2 Cert.KernelIdeal.main_arg10 (by decide),
    (h.1 c).2 Cert.KernelIdeal.main_arg11 (by decide)⟩, h.2⟩) (KI.run m ρ)

/-- The reference over the reals runs and leaves its arguments; it has no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Everything claimed. -/
theorem claim : Cert.Claim := ⟨Cert.Kernel.Gen.facts, Cert.KernelIdeal.Gen.facts, Cert.ReferenceIdeal.Gen.facts, V.preFacts,
  frame_p, frame_pi, fun m ρ _ => frame_pi m ρ trivial, frame_ri, fun m ρ _ => frame_ri m ρ trivial, trivial, V.algebraic⟩

end Cert.Proof

end
